-- ==== Defs.lean ====
def Pre_KSwa (m : (ℓ : Loc Cert.KSwa.nD Cert.KSwa.τ Cert.KSwa.sig) → Buf (Elt Bits) ℓ) : Prop :=
  True

def Pre_KSwaIdeal (m : (ℓ : Loc Cert.KSwaIdeal.nD Cert.KSwaIdeal.τ Cert.KSwaIdeal.sig) → Buf (Elt Ideal) ℓ) : Prop :=
  True

def Pre_KSwaIdeal_finite_scores [hPre_finite_scores : Cert.Pre_finite_scores.Facts] (m : (ℓ : Loc Cert.KSwaIdeal.nD Cert.KSwaIdeal.τ Cert.KSwaIdeal.sig) → Buf (Elt Ideal) ℓ) : Prop :=
  ∀ c : Dev Cert.KSwaIdeal.nD,
    (Cert.Pre_finite_scores.fn (F := Ideal) (m ((c.tc : Thread Cert.KSwaIdeal.nD Cert.KSwaIdeal.τ).loc Cert.KSwaIdeal.main_arg0)) (m ((c.tc : Thread Cert.KSwaIdeal.nD Cert.KSwaIdeal.τ).loc Cert.KSwaIdeal.main_arg1))).1 = (fun _ => 1#1)
    ∧ (Cert.Pre_finite_scores.fn (F := Ideal) (m ((c.tc : Thread Cert.KSwaIdeal.nD Cert.KSwaIdeal.τ).loc Cert.KSwaIdeal.main_arg0)) (m ((c.tc : Thread Cert.KSwaIdeal.nD Cert.KSwaIdeal.τ).loc Cert.KSwaIdeal.main_arg1))).2.1 = (fun _ => 1#1)
    ∧ (Cert.Pre_finite_scores.fn (F := Ideal) (m ((c.tc : Thread Cert.KSwaIdeal.nD Cert.KSwaIdeal.τ).loc Cert.KSwaIdeal.main_arg0)) (m ((c.tc : Thread Cert.KSwaIdeal.nD Cert.KSwaIdeal.τ).loc Cert.KSwaIdeal.main_arg1))).2.2 = (fun _ => 1#1)

def Pre_RSwaIdeal (m : (ℓ : Loc Cert.RSwaIdeal.nD Cert.RSwaIdeal.τ Cert.RSwaIdeal.sig) → Buf (Elt Ideal) ℓ) : Prop :=
  True

def Pre_RSwaIdeal_finite_scores [hPre_finite_scores : Cert.Pre_finite_scores.Facts] (m : (ℓ : Loc Cert.RSwaIdeal.nD Cert.RSwaIdeal.τ Cert.RSwaIdeal.sig) → Buf (Elt Ideal) ℓ) : Prop :=
  ∀ c : Dev Cert.RSwaIdeal.nD,
    (Cert.Pre_finite_scores.fn (F := Ideal) (m ((c.tc : Thread Cert.RSwaIdeal.nD Cert.RSwaIdeal.τ).loc Cert.RSwaIdeal.main_arg0)) (m ((c.tc : Thread Cert.RSwaIdeal.nD Cert.RSwaIdeal.τ).loc Cert.RSwaIdeal.main_arg1))).1 = (fun _ => 1#1)
    ∧ (Cert.Pre_finite_scores.fn (F := Ideal) (m ((c.tc : Thread Cert.RSwaIdeal.nD Cert.RSwaIdeal.τ).loc Cert.RSwaIdeal.main_arg0)) (m ((c.tc : Thread Cert.RSwaIdeal.nD Cert.RSwaIdeal.τ).loc Cert.RSwaIdeal.main_arg1))).2.1 = (fun _ => 1#1)
    ∧ (Cert.Pre_finite_scores.fn (F := Ideal) (m ((c.tc : Thread Cert.RSwaIdeal.nD Cert.RSwaIdeal.τ).loc Cert.RSwaIdeal.main_arg0)) (m ((c.tc : Thread Cert.RSwaIdeal.nD Cert.RSwaIdeal.τ).loc Cert.RSwaIdeal.main_arg1))).2.2 = (fun _ => 1#1)

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_RProjIdeal (m : (ℓ : Loc Cert.RProjIdeal.nD Cert.RProjIdeal.τ Cert.RProjIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def quiescent_KSwa [hKSwa : Cert.KSwa.Facts] : Prop :=
  ∀ (m : (ℓ : Loc Cert.KSwa.nD Cert.KSwa.τ Cert.KSwa.sig) → Buf (Elt Bits) ℓ) (g : Dev Cert.KSwa.nD → PrngReg), Pre_KSwa m →
    θ_run (Cert.KSwa.defs (F := Bits)) (onTc (τ := Cert.KSwa.τ) (Cert.KSwa.main (F := Bits))) ⟨m, fun _ => 0, g⟩ (fun r => (∀ c : Dev Cert.KSwa.nD,
      r.2.mem ((c.tc : Thread Cert.KSwa.nD Cert.KSwa.τ).loc Cert.KSwa.main_arg0) = m ((c.tc : Thread Cert.KSwa.nD Cert.KSwa.τ).loc Cert.KSwa.main_arg0)
      ∧ r.2.mem ((c.tc : Thread Cert.KSwa.nD Cert.KSwa.τ).loc Cert.KSwa.main_arg1) = m ((c.tc : Thread Cert.KSwa.nD Cert.KSwa.τ).loc Cert.KSwa.main_arg1))
      ∧ r.2.sem = fun _ => 0)

def quiescent_KSwaIdeal [hKSwaIdeal : Cert.KSwaIdeal.Facts] : Prop :=
  ∀ (m : (ℓ : Loc Cert.KSwaIdeal.nD Cert.KSwaIdeal.τ Cert.KSwaIdeal.sig) → Buf (Elt Ideal) ℓ) (g : Dev Cert.KSwaIdeal.nD → PrngReg), Pre_KSwaIdeal m →
    θ_run (Cert.KSwaIdeal.defs (F := Ideal)) (onTc (τ := Cert.KSwaIdeal.τ) (Cert.KSwaIdeal.main (F := Ideal))) ⟨m, fun _ => 0, g⟩ (fun r => (∀ c : Dev Cert.KSwaIdeal.nD,
      r.2.mem ((c.tc : Thread Cert.KSwaIdeal.nD Cert.KSwaIdeal.τ).loc Cert.KSwaIdeal.main_arg0) = m ((c.tc : Thread Cert.KSwaIdeal.nD Cert.KSwaIdeal.τ).loc Cert.KSwaIdeal.main_arg0)
      ∧ r.2.mem ((c.tc : Thread Cert.KSwaIdeal.nD Cert.KSwaIdeal.τ).loc Cert.KSwaIdeal.main_arg1) = m ((c.tc : Thread Cert.KSwaIdeal.nD Cert.KSwaIdeal.τ).loc Cert.KSwaIdeal.main_arg1))
      ∧ r.2.sem = fun _ => 0)

def quiescent_KSwaIdeal_pre_finite_scores [hKSwaIdeal : Cert.KSwaIdeal.Facts] [hPre_finite_scores : Cert.Pre_finite_scores.Facts] : Prop :=
  ∀ (m : (ℓ : Loc Cert.KSwaIdeal.nD Cert.KSwaIdeal.τ Cert.KSwaIdeal.sig) → Buf (Elt Ideal) ℓ) (g : Dev Cert.KSwaIdeal.nD → PrngReg), Pre_KSwaIdeal_finite_scores m →
    θ_run (Cert.KSwaIdeal.defs (F := Ideal)) (onTc (τ := Cert.KSwaIdeal.τ) (Cert.KSwaIdeal.main (F := Ideal))) ⟨m, fun _ => 0, g⟩ (fun r => (∀ c : Dev Cert.KSwaIdeal.nD,
      r.2.mem ((c.tc : Thread Cert.KSwaIdeal.nD Cert.KSwaIdeal.τ).loc Cert.KSwaIdeal.main_arg0) = m ((c.tc : Thread Cert.KSwaIdeal.nD Cert.KSwaIdeal.τ).loc Cert.KSwaIdeal.main_arg0)
      ∧ r.2.mem ((c.tc : Thread Cert.KSwaIdeal.nD Cert.KSwaIdeal.τ).loc Cert.KSwaIdeal.main_arg1) = m ((c.tc : Thread Cert.KSwaIdeal.nD Cert.KSwaIdeal.τ).loc Cert.KSwaIdeal.main_arg1))
      ∧ r.2.sem = fun _ => 0)

def quiescent_RSwaIdeal [hRSwaIdeal : Cert.RSwaIdeal.Facts] : Prop :=
  ∀ (m : (ℓ : Loc Cert.RSwaIdeal.nD Cert.RSwaIdeal.τ Cert.RSwaIdeal.sig) → Buf (Elt Ideal) ℓ) (g : Dev Cert.RSwaIdeal.nD → PrngReg), Pre_RSwaIdeal m →
    θ_run (Cert.RSwaIdeal.defs (F := Ideal)) (onTc (τ := Cert.RSwaIdeal.τ) (Cert.RSwaIdeal.main (F := Ideal))) ⟨m, fun _ => 0, g⟩ (fun r => (∀ c : Dev Cert.RSwaIdeal.nD,
      r.2.mem ((c.tc : Thread Cert.RSwaIdeal.nD Cert.RSwaIdeal.τ).loc Cert.RSwaIdeal.main_arg0) = m ((c.tc : Thread Cert.RSwaIdeal.nD Cert.RSwaIdeal.τ).loc Cert.RSwaIdeal.main_arg0)
      ∧ r.2.mem ((c.tc : Thread Cert.RSwaIdeal.nD Cert.RSwaIdeal.τ).loc Cert.RSwaIdeal.main_arg1) = m ((c.tc : Thread Cert.RSwaIdeal.nD Cert.RSwaIdeal.τ).loc Cert.RSwaIdeal.main_arg1))
      ∧ r.2.sem = fun _ => 0)

def quiescent_RSwaIdeal_pre_finite_scores [hRSwaIdeal : Cert.RSwaIdeal.Facts] [hPre_finite_scores : Cert.Pre_finite_scores.Facts] : Prop :=
  ∀ (m : (ℓ : Loc Cert.RSwaIdeal.nD Cert.RSwaIdeal.τ Cert.RSwaIdeal.sig) → Buf (Elt Ideal) ℓ) (g : Dev Cert.RSwaIdeal.nD → PrngReg), Pre_RSwaIdeal_finite_scores m →
    θ_run (Cert.RSwaIdeal.defs (F := Ideal)) (onTc (τ := Cert.RSwaIdeal.τ) (Cert.RSwaIdeal.main (F := Ideal))) ⟨m, fun _ => 0, g⟩ (fun r => (∀ c : Dev Cert.RSwaIdeal.nD,
      r.2.mem ((c.tc : Thread Cert.RSwaIdeal.nD Cert.RSwaIdeal.τ).loc Cert.RSwaIdeal.main_arg0) = m ((c.tc : Thread Cert.RSwaIdeal.nD Cert.RSwaIdeal.τ).loc Cert.RSwaIdeal.main_arg0)
      ∧ r.2.mem ((c.tc : Thread Cert.RSwaIdeal.nD Cert.RSwaIdeal.τ).loc Cert.RSwaIdeal.main_arg1) = m ((c.tc : Thread Cert.RSwaIdeal.nD Cert.RSwaIdeal.τ).loc Cert.RSwaIdeal.main_arg1))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2)
      ∧ r.2.mem ((c.tc : Thread Cert.KProj.nD Cert.KProj.τ).loc Cert.KProj.main_arg3) = m ((c.tc : Thread Cert.KProj.nD Cert.KProj.τ).loc Cert.KProj.main_arg3))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
      ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1)
      ∧ r.2.mem ((c.tc : Thread Cert.RProjIdeal.nD Cert.RProjIdeal.τ).loc Cert.RProjIdeal.main_arg2) = m ((c.tc : Thread Cert.RProjIdeal.nD Cert.RProjIdeal.τ).loc Cert.RProjIdeal.main_arg2)
      ∧ r.2.mem ((c.tc : Thread Cert.RProjIdeal.nD Cert.RProjIdeal.τ).loc Cert.RProjIdeal.main_arg3) = m ((c.tc : Thread Cert.RProjIdeal.nD Cert.RProjIdeal.τ).loc Cert.RProjIdeal.main_arg3))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3)
      ∧ r.2.mem ((c.tc : Thread Cert.KOut.nD Cert.KOut.τ).loc Cert.KOut.main_arg4) = m ((c.tc : Thread Cert.KOut.nD Cert.KOut.τ).loc Cert.KOut.main_arg4)
      ∧ r.2.mem ((c.tc : Thread Cert.KOut.nD Cert.KOut.τ).loc Cert.KOut.main_arg5) = m ((c.tc : Thread Cert.KOut.nD Cert.KOut.τ).loc Cert.KOut.main_arg5)
      ∧ r.2.mem ((c.tc : Thread Cert.KOut.nD Cert.KOut.τ).loc Cert.KOut.main_arg6) = m ((c.tc : Thread Cert.KOut.nD Cert.KOut.τ).loc Cert.KOut.main_arg6)
      ∧ r.2.mem ((c.tc : Thread Cert.KOut.nD Cert.KOut.τ).loc Cert.KOut.main_arg7) = m ((c.tc : Thread Cert.KOut.nD Cert.KOut.τ).loc Cert.KOut.main_arg7))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
      ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4)
      ∧ r.2.mem ((c.tc : Thread Cert.KOutIdeal.nD Cert.KOutIdeal.τ).loc Cert.KOutIdeal.main_arg5) = m ((c.tc : Thread Cert.KOutIdeal.nD Cert.KOutIdeal.τ).loc Cert.KOutIdeal.main_arg5)
      ∧ r.2.mem ((c.tc : Thread Cert.KOutIdeal.nD Cert.KOutIdeal.τ).loc Cert.KOutIdeal.main_arg6) = m ((c.tc : Thread Cert.KOutIdeal.nD Cert.KOutIdeal.τ).loc Cert.KOutIdeal.main_arg6)
      ∧ r.2.mem ((c.tc : Thread Cert.KOutIdeal.nD Cert.KOutIdeal.τ).loc Cert.KOutIdeal.main_arg7) = m ((c.tc : Thread Cert.KOutIdeal.nD Cert.KOutIdeal.τ).loc Cert.KOutIdeal.main_arg7))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3)
      ∧ r.2.mem ((c.tc : Thread Cert.ROutIdeal.nD Cert.ROutIdeal.τ).loc Cert.ROutIdeal.main_arg4) = m ((c.tc : Thread Cert.ROutIdeal.nD Cert.ROutIdeal.τ).loc Cert.ROutIdeal.main_arg4)
      ∧ r.2.mem ((c.tc : Thread Cert.ROutIdeal.nD Cert.ROutIdeal.τ).loc Cert.ROutIdeal.main_arg5) = m ((c.tc : Thread Cert.ROutIdeal.nD Cert.ROutIdeal.τ).loc Cert.ROutIdeal.main_arg5)
      ∧ r.2.mem ((c.tc : Thread Cert.ROutIdeal.nD Cert.ROutIdeal.τ).loc Cert.ROutIdeal.main_arg6) = m ((c.tc : Thread Cert.ROutIdeal.nD Cert.ROutIdeal.τ).loc Cert.ROutIdeal.main_arg6)
      ∧ r.2.mem ((c.tc : Thread Cert.ROutIdeal.nD Cert.ROutIdeal.τ).loc Cert.ROutIdeal.main_arg7) = m ((c.tc : Thread Cert.ROutIdeal.nD Cert.ROutIdeal.τ).loc Cert.ROutIdeal.main_arg7))
      ∧ r.2.sem = fun _ => 0)

def preserves_KSwa_KSwaIdeal : Prop :=
  IdealRules.named_const.Statement Cert.KSwaIdeal.κ "mask" .f32 0xF149F2CA#32 ⊥

def algebraic_KSwaIdeal_RSwaIdeal_pre_finite_scores [hKSwaIdeal : Cert.KSwaIdeal.Facts] [hRSwaIdeal : Cert.RSwaIdeal.Facts] [hPre_finite_scores : Cert.Pre_finite_scores.Facts] : Prop :=
  ∀ (m : (ℓ : Loc Cert.KSwaIdeal.nD Cert.KSwaIdeal.τ Cert.KSwaIdeal.sig) → Buf (Elt Ideal) ℓ) (g : Dev Cert.KSwaIdeal.nD → PrngReg)
    (m' : (ℓ : Loc Cert.RSwaIdeal.nD Cert.RSwaIdeal.τ Cert.RSwaIdeal.sig) → Buf (Elt Ideal) ℓ) (g' : Dev Cert.RSwaIdeal.nD → PrngReg), Pre_KSwaIdeal_finite_scores m →
    (∀ c : Dev Cert.KSwaIdeal.nD,
      m' ((c.tc : Thread Cert.RSwaIdeal.nD Cert.RSwaIdeal.τ).loc Cert.RSwaIdeal.main_arg0) = m ((c.tc : Thread Cert.KSwaIdeal.nD Cert.KSwaIdeal.τ).loc Cert.KSwaIdeal.main_arg0)
      ∧ m' ((c.tc : Thread Cert.RSwaIdeal.nD Cert.RSwaIdeal.τ).loc Cert.RSwaIdeal.main_arg1) = m ((c.tc : Thread Cert.KSwaIdeal.nD Cert.KSwaIdeal.τ).loc Cert.KSwaIdeal.main_arg1)) →
    ∃ (v0 : (c : Dev Cert.KSwaIdeal.nD) → Buf (Elt Ideal) ((c.tc : Thread Cert.KSwaIdeal.nD Cert.KSwaIdeal.τ).loc Cert.KSwaIdeal.main_v1)),
      θ_run (Cert.KSwaIdeal.defs (F := Ideal)) (onTc (τ := Cert.KSwaIdeal.τ) (Cert.KSwaIdeal.main (F := Ideal))) ⟨m, fun _ => 0, g⟩ (fun r => ∀ c : Dev Cert.KSwaIdeal.nD,
          r.2.mem ((c.tc : Thread Cert.KSwaIdeal.nD Cert.KSwaIdeal.τ).loc Cert.KSwaIdeal.main_v1) = v0 c
          ∧ r.2.mem ((c.tc : Thread Cert.KSwaIdeal.nD Cert.KSwaIdeal.τ).loc Cert.KSwaIdeal.main_arg0) = m ((c.tc : Thread Cert.KSwaIdeal.nD Cert.KSwaIdeal.τ).loc Cert.KSwaIdeal.main_arg0)
          ∧ r.2.mem ((c.tc : Thread Cert.KSwaIdeal.nD Cert.KSwaIdeal.τ).loc Cert.KSwaIdeal.main_arg1) = m ((c.tc : Thread Cert.KSwaIdeal.nD Cert.KSwaIdeal.τ).loc Cert.KSwaIdeal.main_arg1))
      ∧ θ_run (Cert.RSwaIdeal.defs (F := Ideal)) (onTc (τ := Cert.RSwaIdeal.τ) (Cert.RSwaIdeal.main (F := Ideal))) ⟨m', fun _ => 0, g'⟩ (fun r => ∀ c : Dev Cert.RSwaIdeal.nD,
          r.2.mem ((c.tc : Thread Cert.RSwaIdeal.nD Cert.RSwaIdeal.τ).loc Cert.RSwaIdeal.main_v70) = v0 c
          ∧ r.2.mem ((c.tc : Thread Cert.RSwaIdeal.nD Cert.RSwaIdeal.τ).loc Cert.RSwaIdeal.main_arg0) = m' ((c.tc : Thread Cert.RSwaIdeal.nD Cert.RSwaIdeal.τ).loc Cert.RSwaIdeal.main_arg0)
          ∧ r.2.mem ((c.tc : Thread Cert.RSwaIdeal.nD Cert.RSwaIdeal.τ).loc Cert.RSwaIdeal.main_arg1) = m' ((c.tc : Thread Cert.RSwaIdeal.nD Cert.RSwaIdeal.τ).loc Cert.RSwaIdeal.main_arg1))

def preserves_KProj_KProjIdeal : Prop :=
  True

def algebraic_KProjIdeal_RProjIdeal [hKProjIdeal : Cert.KProjIdeal.Facts] [hRProjIdeal : Cert.RProjIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.RProjIdeal.nD Cert.RProjIdeal.τ Cert.RProjIdeal.sig) → Buf (Elt Ideal) ℓ) (g' : Dev Cert.RProjIdeal.nD → PrngReg), Pre_KProjIdeal m →
    (∀ c : Dev Cert.KProjIdeal.nD,
      m' ((c.tc : Thread Cert.RProjIdeal.nD Cert.RProjIdeal.τ).loc Cert.RProjIdeal.main_arg0) = m ((c.tc : Thread Cert.KProjIdeal.nD Cert.KProjIdeal.τ).loc Cert.KProjIdeal.main_arg0)
      ∧ m' ((c.tc : Thread Cert.RProjIdeal.nD Cert.RProjIdeal.τ).loc Cert.RProjIdeal.main_arg1) = m ((c.tc : Thread Cert.KProjIdeal.nD Cert.KProjIdeal.τ).loc Cert.KProjIdeal.main_arg1)
      ∧ m' ((c.tc : Thread Cert.RProjIdeal.nD Cert.RProjIdeal.τ).loc Cert.RProjIdeal.main_arg2) = m ((c.tc : Thread Cert.KProjIdeal.nD Cert.KProjIdeal.τ).loc Cert.KProjIdeal.main_arg2)
      ∧ m' ((c.tc : Thread Cert.RProjIdeal.nD Cert.RProjIdeal.τ).loc Cert.RProjIdeal.main_arg3) = m ((c.tc : Thread Cert.KProjIdeal.nD Cert.KProjIdeal.τ).loc Cert.KProjIdeal.main_arg3)) →
    ∃ (v0 : (c : Dev Cert.KProjIdeal.nD) → Buf (Elt Ideal) ((c.tc : Thread Cert.KProjIdeal.nD Cert.KProjIdeal.τ).loc Cert.KProjIdeal.main_v29)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v29) = v0 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
          ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3))
      ∧ θ_run (Cert.RProjIdeal.defs (F := Ideal)) (onTc (τ := Cert.RProjIdeal.τ) (Cert.RProjIdeal.main (F := Ideal))) ⟨m', fun _ => 0, g'⟩ (fun r => ∀ c : Dev Cert.RProjIdeal.nD,
          r.2.mem ((c.tc : Thread Cert.RProjIdeal.nD Cert.RProjIdeal.τ).loc Cert.RProjIdeal.main_v78) = v0 c
          ∧ r.2.mem ((c.tc : Thread Cert.RProjIdeal.nD Cert.RProjIdeal.τ).loc Cert.RProjIdeal.main_arg0) = m' ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m' ((c.tc : Thread Cert.RProjIdeal.nD Cert.RProjIdeal.τ).loc Cert.RProjIdeal.main_arg1)
          ∧ r.2.mem ((c.tc : Thread Cert.RProjIdeal.nD Cert.RProjIdeal.τ).loc Cert.RProjIdeal.main_arg2) = m' ((c.tc : Thread Cert.RProjIdeal.nD Cert.RProjIdeal.τ).loc Cert.RProjIdeal.main_arg2)
          ∧ r.2.mem ((c.tc : Thread Cert.RProjIdeal.nD Cert.RProjIdeal.τ).loc Cert.RProjIdeal.main_arg3) = m' ((c.tc : Thread Cert.RProjIdeal.nD Cert.RProjIdeal.τ).loc Cert.RProjIdeal.main_arg3))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)
      ∧ m' ((c.tc : Thread Cert.ROutIdeal.nD Cert.ROutIdeal.τ).loc Cert.ROutIdeal.main_arg4) = m ((c.tc : Thread Cert.KOutIdeal.nD Cert.KOutIdeal.τ).loc Cert.KOutIdeal.main_arg4)
      ∧ m' ((c.tc : Thread Cert.ROutIdeal.nD Cert.ROutIdeal.τ).loc Cert.ROutIdeal.main_arg5) = m ((c.tc : Thread Cert.KOutIdeal.nD Cert.KOutIdeal.τ).loc Cert.KOutIdeal.main_arg5)
      ∧ m' ((c.tc : Thread Cert.ROutIdeal.nD Cert.ROutIdeal.τ).loc Cert.ROutIdeal.main_arg6) = m ((c.tc : Thread Cert.KOutIdeal.nD Cert.KOutIdeal.τ).loc Cert.KOutIdeal.main_arg6)
      ∧ m' ((c.tc : Thread Cert.ROutIdeal.nD Cert.ROutIdeal.τ).loc Cert.ROutIdeal.main_arg7) = m ((c.tc : Thread Cert.KOutIdeal.nD Cert.KOutIdeal.τ).loc Cert.KOutIdeal.main_arg7)) →
    ∃ (v0 : (c : Dev Cert.KOutIdeal.nD) → Buf (Elt Ideal) ((c.tc : Thread Cert.KOutIdeal.nD Cert.KOutIdeal.τ).loc Cert.KOutIdeal.main_v8)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v8) = v0 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
          ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4)
          ∧ r.2.mem ((c.tc : Thread Cert.KOutIdeal.nD Cert.KOutIdeal.τ).loc Cert.KOutIdeal.main_arg5) = m ((c.tc : Thread Cert.KOutIdeal.nD Cert.KOutIdeal.τ).loc Cert.KOutIdeal.main_arg5)
          ∧ r.2.mem ((c.tc : Thread Cert.KOutIdeal.nD Cert.KOutIdeal.τ).loc Cert.KOutIdeal.main_arg6) = m ((c.tc : Thread Cert.KOutIdeal.nD Cert.KOutIdeal.τ).loc Cert.KOutIdeal.main_arg6)
          ∧ r.2.mem ((c.tc : Thread Cert.KOutIdeal.nD Cert.KOutIdeal.τ).loc Cert.KOutIdeal.main_arg7) = m ((c.tc : Thread Cert.KOutIdeal.nD Cert.KOutIdeal.τ).loc Cert.KOutIdeal.main_arg7))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v43) = v0 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3)
          ∧ r.2.mem ((c.tc : Thread Cert.ROutIdeal.nD Cert.ROutIdeal.τ).loc Cert.ROutIdeal.main_arg4) = m' ((c.tc : Thread Cert.ROutIdeal.nD Cert.ROutIdeal.τ).loc Cert.ROutIdeal.main_arg4)
          ∧ r.2.mem ((c.tc : Thread Cert.ROutIdeal.nD Cert.ROutIdeal.τ).loc Cert.ROutIdeal.main_arg5) = m' ((c.tc : Thread Cert.ROutIdeal.nD Cert.ROutIdeal.τ).loc Cert.ROutIdeal.main_arg5)
          ∧ r.2.mem ((c.tc : Thread Cert.ROutIdeal.nD Cert.ROutIdeal.τ).loc Cert.ROutIdeal.main_arg6) = m' ((c.tc : Thread Cert.ROutIdeal.nD Cert.ROutIdeal.τ).loc Cert.ROutIdeal.main_arg6)
          ∧ r.2.mem ((c.tc : Thread Cert.ROutIdeal.nD Cert.ROutIdeal.τ).loc Cert.ROutIdeal.main_arg7) = m' ((c.tc : Thread Cert.ROutIdeal.nD Cert.ROutIdeal.τ).loc Cert.ROutIdeal.main_arg7))

def Claim : Prop :=
  ∃ (hKSwa : Cert.KSwa.Facts) (hKSwaIdeal : Cert.KSwaIdeal.Facts) (hRSwaIdeal : Cert.RSwaIdeal.Facts) (hKProj : Cert.KProj.Facts) (hKProjIdeal : Cert.KProjIdeal.Facts) (hRProjIdeal : Cert.RProjIdeal.Facts) (hKOut : Cert.KOut.Facts) (hKOutIdeal : Cert.KOutIdeal.Facts) (hROutIdeal : Cert.ROutIdeal.Facts) (hPre_finite_scores : Cert.Pre_finite_scores.Facts),
    quiescent_KSwa (hKSwa := hKSwa)
    ∧ quiescent_KSwaIdeal (hKSwaIdeal := hKSwaIdeal)
    ∧ quiescent_KSwaIdeal_pre_finite_scores (hKSwaIdeal := hKSwaIdeal) (hPre_finite_scores := hPre_finite_scores)
    ∧ quiescent_RSwaIdeal (hRSwaIdeal := hRSwaIdeal)
    ∧ quiescent_RSwaIdeal_pre_finite_scores (hRSwaIdeal := hRSwaIdeal) (hPre_finite_scores := hPre_finite_scores)
    ∧ quiescent_KProj (hKProj := hKProj)
    ∧ quiescent_KProjIdeal (hKProjIdeal := hKProjIdeal)
    ∧ quiescent_RProjIdeal (hRProjIdeal := hRProjIdeal)
    ∧ quiescent_KOut (hKOut := hKOut)
    ∧ quiescent_KOutIdeal (hKOutIdeal := hKOutIdeal)
    ∧ quiescent_ROutIdeal (hROutIdeal := hROutIdeal)
    ∧ preserves_KSwa_KSwaIdeal
    ∧ algebraic_KSwaIdeal_RSwaIdeal_pre_finite_scores (hKSwaIdeal := hKSwaIdeal) (hRSwaIdeal := hRSwaIdeal) (hPre_finite_scores := hPre_finite_scores)
    ∧ preserves_KProj_KProjIdeal
    ∧ algebraic_KProjIdeal_RProjIdeal (hKProjIdeal := hKProjIdeal) (hRProjIdeal := hRProjIdeal)
    ∧ preserves_KOut_KOutIdeal
    ∧ algebraic_KOutIdeal_ROutIdeal (hKOutIdeal := hKOutIdeal) (hROutIdeal := hROutIdeal)
-- ==== Pre_finite_scores.lean ====
abbrev S16384x7552 : Shape := ⟨2, ![16384, 7552]⟩
abbrev S1x16 : Shape := ⟨2, ![1, 16]⟩
abbrev S16384x1024 : Shape := ⟨2, ![16384, 1024]⟩
abbrev S_ : Shape := ⟨0, ![]⟩
abbrev S16384x128 : Shape := ⟨2, ![16384, 128]⟩

class Facts : Prop where
  bitsLt_bf16_f32 : FTy.bits .bf16 < FTy.bits .f32
  slices_S16384x7552_S16384x1024_0_0 : S16384x7552.Slices ![0, 0] S16384x1024
  bcast_S_S16384x1024 : S_.BroadcastsInDim S16384x1024 (![] : Fin 0 → Fin S16384x1024.rank)
  slices_S16384x7552_S16384x128_0_7168 : S16384x7552.Slices ![0, 7168] S16384x128
  bcast_S_S16384x128 : S_.BroadcastsInDim S16384x128 (![] : Fin 0 → Fin S16384x128.rank)
  bcast_S_S1x16 : S_.BroadcastsInDim S1x16 (![] : Fin 0 → Fin S1x16.rank)

variable [Facts]

def fn {F : FTy → Type} [FloatOps F] (main_arg0 : FVec F S16384x7552 .bf16) (main_arg1 : FVec F S1x16 .f32) : IVec S16384x1024 1 × IVec S16384x128 1 × IVec S1x16 1 :=
  let main_v0 : FVec F S16384x7552 .f32 := (extf .f32 · bitsLt_bf16_f32) main_arg0
  let main_v1 : FVec F S16384x1024 .f32 := (extractStridedSlice S16384x1024 ![0, 0] · slices_S16384x7552_S16384x1024_0_0) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S16384x128 .f32 := (extractStridedSlice S16384x128 ![0, 7168] · slices_S16384x7552_S16384x128_0_7168) main_v0
  let main_v6 : FVec F S16384x128 .f32 := Host.absf main_v5
  let main_cst_0 : FVec F S_ .f32 := constant S_ .f32 0x7F800000#32
  let main_v7 : FVec F S16384x128 .f32 := broadcastInDim S16384x128 ![] bcast_S_S16384x128 main_cst_0
  let main_v8 : IVec S16384x128 1 := cmpf .olt main_v6 main_v7
  let main_v9 : FVec F S1x16 .f32 := Host.absf main_arg1
  let main_cst_1 : FVec F S_ .f32 := constant S_ .f32 0x7F800000#32
  let main_v10 : FVec F S1x16 .f32 := broadcastInDim S1x16 ![] bcast_S_S1x16 main_cst_1
  let main_v11 : IVec S1x16 1 := cmpf .olt main_v9 main_v10
  (main_v4, main_v8, main_v11)
-- ==== KSwa.lean ====
abbrev S16384x7552 : Shape := ⟨2, ![16384, 7552]⟩
abbrev S1x16 : Shape := ⟨2, ![1, 16]⟩
abbrev S16 : Shape := ⟨1, ![16]⟩
abbrev S16384x1024 : Shape := ⟨2, ![16384, 1024]⟩
abbrev S128x1024 : Shape := ⟨2, ![128, 1024]⟩
abbrev S128x128 : Shape := ⟨2, ![128, 128]⟩
abbrev S2x2x256x1024 : Shape := ⟨4, ![2, 2, 256, 1024]⟩
abbrev S256x1024 : Shape := ⟨2, ![256, 1024]⟩
abbrev S1 : Shape := ⟨1, ![1]⟩
abbrev S1x1x256x1024 : Shape := ⟨4, ![1, 1, 256, 1024]⟩
abbrev S256x128 : Shape := ⟨2, ![256, 128]⟩
abbrev S128x256 : Shape := ⟨2, ![128, 256]⟩
abbrev S64x256 : Shape := ⟨2, ![64, 256]⟩
abbrev S64x1024 : Shape := ⟨2, ![64, 1024]⟩
abbrev S256x256 : Shape := ⟨2, ![256, 256]⟩
abbrev S256 : Shape := ⟨1, ![256]⟩
abbrev S256x1 : Shape := ⟨2, ![256, 1]⟩
abbrev S512x256 : Shape := ⟨2, ![512, 256]⟩
abbrev S256x512 : Shape := ⟨2, ![256, 512]⟩
abbrev S512x512 : Shape := ⟨2, ![512, 512]⟩
abbrev S512x128 : Shape := ⟨2, ![512, 128]⟩

abbrev nBuf : Space → Nat
  | .hbm => 4
  | .vmem => 15
  | .smem => 1
  | _ => 0

abbrev bufTy : (tb : Table) → Fin (tcTables nBuf tb) → BufTy
  | .hbm, ⟨0, _⟩ => ⟨S16384x7552, .bf16⟩
  | .hbm, ⟨1, _⟩ => ⟨S1x16, .f32⟩
  | .hbm, ⟨2, _⟩ => ⟨S16, .f32⟩
  | .hbm, ⟨3, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S2x2x256x1024, .f32⟩
  | .local _ .smem, ⟨0, _⟩ => ⟨S16, .f32⟩
  | _, _ => ⟨S16384x7552, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 16], ![false, false]⟩

def k0_off1 (i : grid0.Coords) : Fin 4 → Nat :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let v47 : Index := Scalar.indexCast v6
  let c0_24 : Index := 0#32
  let c0_25 : Index := 0#32
  let c0_26 : Index := 0#32
  ![v47.toNat, 0, 0, 0]
def k0_off2 (i : grid0.Coords) : Fin 4 → Nat :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let v157 : Index := Scalar.indexCast v6
  let c1 : Index := 1#32
  let c0_61 : Index := 0#32
  let c0_62 : Index := 0#32
  ![v157.toNat, 1, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c56_i32 : BitVec 32 := 56#32
  let c0_i32_0 : BitVec 32 := 0#32
  ![v3.toNat, c56_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c56_i32 : BitVec 32 := 56#32
  let c0_i32 : BitVec 32 := 0#32
  ![v1.toNat, c56_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c57_i32 : BitVec 32 := 57#32
  let c0_i32_0 : BitVec 32 := 0#32
  ![v3.toNat, c57_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c57_i32 : BitVec 32 := 57#32
  let c0_i32 : BitVec 32 := 0#32
  ![v1.toNat, c57_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KSwaIdeal.lean ====
variable {F : FTy → Type} [FloatOps F] [Named F]
def κ : String → Option EReal := fun
  | "mask" => some ⊥
  | _ => none
-- ==== RSwaIdeal.lean ====
abbrev S16384x7552 : Shape := ⟨2, ![16384, 7552]⟩
abbrev S1x16 : Shape := ⟨2, ![1, 16]⟩
abbrev S8x2048x7552 : Shape := ⟨3, ![8, 2048, 7552]⟩
abbrev S8x2048x1024 : Shape := ⟨3, ![8, 2048, 1024]⟩
abbrev S8x2048x128 : Shape := ⟨3, ![8, 2048, 128]⟩
abbrev S8x16x128x2x8x64 : Shape := ⟨6, ![8, 16, 128, 2, 8, 64]⟩
abbrev S8x16x128x2x64 : Shape := ⟨5, ![8, 16, 128, 2, 64]⟩
abbrev S_ : Shape := ⟨0, ![]⟩
abbrev S8x17x128x2x64 : Shape := ⟨5, ![8, 17, 128, 2, 64]⟩
abbrev S8x16x256x2x64 : Shape := ⟨5, ![8, 16, 256, 2, 64]⟩
abbrev S8x16x2x256x128x8 : Shape := ⟨6, ![8, 16, 2, 256, 128, 8]⟩
abbrev S8x16x2x8x128x256 : Shape := ⟨6, ![8, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S8x16x2x8x128x1 : Shape := ⟨6, ![8, 16, 2, 8, 128, 1]⟩
abbrev S8x16x2x8x128x257 : Shape := ⟨6, ![8, 16, 2, 8, 128, 257]⟩
abbrev S8x16x2x8x128 : Shape := ⟨5, ![8, 16, 2, 8, 128]⟩
abbrev S8x16x2x64x8x128 : Shape := ⟨6, ![8, 16, 2, 64, 8, 128]⟩
abbrev S16384x1024 : Shape := ⟨2, ![16384, 1024]⟩

abbrev nBuf : Space → Nat
  | .hbm => 97
  | .vmem => 0
  | .smem => 0
  | _ => 0

abbrev bufTy : (tb : Table) → Fin (tcTables nBuf tb) → BufTy
  | .hbm, ⟨0, _⟩ => ⟨S16384x7552, .bf16⟩
  | .hbm, ⟨1, _⟩ => ⟨S1x16, .f32⟩
  | .hbm, ⟨2, _⟩ => ⟨S16384x7552, .f32⟩
  | .hbm, ⟨3, _⟩ => ⟨S8x2048x7552, .f32⟩
  | .hbm, ⟨4, _⟩ => ⟨S8x2048x1024, .f32⟩
  | .hbm, ⟨5, _⟩ => ⟨S8x2048x1024, .f32⟩
  | .hbm, ⟨6, _⟩ => ⟨S8x2048x128, .f32⟩
  | .hbm, ⟨7, _⟩ => ⟨S8x2048x128, .f32⟩
  | .hbm, ⟨8, _⟩ => ⟨S8x16x128x2x8x64, .f32⟩
  | .hbm, ⟨9, _⟩ => ⟨S8x16x128x2x64, .f32⟩
  | .hbm, ⟨10, _⟩ => ⟨S8x16x128x2x64, .f32⟩
  | .hbm, ⟨11, _⟩ => ⟨S_, .i32⟩
  | .hbm, ⟨12, _⟩ => ⟨S_, .f32⟩
  | .hbm, ⟨13, _⟩ => ⟨S8x17x128x2x64, .f32⟩
  | .hbm, ⟨14, _⟩ => ⟨S8x16x128x2x64, .f32⟩
  | .hbm, ⟨15, _⟩ => ⟨S8x16x256x2x64, .f32⟩
  | .hbm, ⟨16, _⟩ => ⟨S_, .i32⟩
  | .hbm, ⟨17, _⟩ => ⟨S_, .f32⟩
  | .hbm, ⟨18, _⟩ => ⟨S8x17x128x2x64, .f32⟩
  | .hbm, ⟨19, _⟩ => ⟨S8x16x128x2x64, .f32⟩
  | .hbm, ⟨20, _⟩ => ⟨S8x16x256x2x64, .f32⟩
  | .hbm, ⟨21, _⟩ => ⟨S8x16x2x256x128x8, .f32⟩
  | .hbm, ⟨22, _⟩ => ⟨S8x16x2x8x128x256, .f32⟩
  | .hbm, ⟨23, _⟩ => ⟨S128, .i32⟩
  | .hbm, ⟨24, _⟩ => ⟨S128x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i1⟩
  | .hbm, ⟨40, _⟩ => ⟨S16, .i32⟩
  | .hbm, ⟨41, _⟩ => ⟨S16x1x1, .i32⟩
  | .hbm, ⟨42, _⟩ => ⟨S1x128x256, .i1⟩
  | .hbm, ⟨43, _⟩ => ⟨S_, .i32⟩
  | .hbm, ⟨44, _⟩ => ⟨S16x1x1, .i32⟩
  | .hbm, ⟨45, _⟩ => ⟨S16x1x1, .i1⟩
  | .hbm, ⟨46, _⟩ => ⟨S_, .i32⟩
  | .hbm, ⟨47, _⟩ => ⟨S1x256, .i32⟩
  | .hbm, ⟨48, _⟩ => ⟨S1x256, .i1⟩
  | .hbm, ⟨49, _⟩ => ⟨S1x1x256, .i1⟩
  | .hbm, ⟨50, _⟩ => ⟨S16x1x256, .i1⟩
  | .hbm, ⟨51, _⟩ => ⟨S16x1x256, .i1⟩
  | .hbm, ⟨52, _⟩ => ⟨S16x1x256, .i1⟩
  | .hbm, ⟨53, _⟩ => ⟨S16x128x256, .i1⟩
  | .hbm, ⟨54, _⟩ => ⟨S16x128x256, .i1⟩
  | .hbm, ⟨55, _⟩ => ⟨S16x128x256, .i1⟩
  | .hbm, ⟨56, _⟩ => ⟨S1x16x1x1x128x256, .i1⟩
  | .hbm, ⟨57, _⟩ => ⟨S_, .f32⟩
  | .hbm, ⟨58, _⟩ => ⟨S_, .f32⟩
  | .hbm, ⟨59, _⟩ => ⟨S8x16x2x8x128x256, .i1⟩
  | .hbm, ⟨60, _⟩ => ⟨S8x16x2x8x128x256, .f32⟩
  | .hbm, ⟨61, _⟩ => ⟨S8x16x2x8x128x256, .f32⟩
  | .hbm, ⟨62, _⟩ => ⟨S16, .f32⟩
  | .hbm, ⟨63, _⟩ => ⟨S2x8, .f32⟩
  | .hbm, ⟨64, _⟩ => ⟨S1x1x2x8x1x1, .f32⟩
  | .hbm, ⟨65, _⟩ => ⟨S8x16x2x8x128x1, .f32⟩
  | .hbm, ⟨66, _⟩ => ⟨S8x16x2x8x128x257, .f32⟩
  | .hbm, ⟨67, _⟩ => ⟨S_, .f32⟩
  | .hbm, ⟨68, _⟩ => ⟨S8x16x2x8x128, .f32⟩
  | .hbm, ⟨69, _⟩ => ⟨S_, .f32⟩
  | .hbm, ⟨70, _⟩ => ⟨S8x16x2x8x128, .f32⟩
  | .hbm, ⟨71, _⟩ => ⟨S8x16x2x8x128, .f32⟩
  | .hbm, ⟨72, _⟩ => ⟨S8x16x2x8x128x1, .f32⟩
  | .hbm, ⟨73, _⟩ => ⟨S8x16x2x8x128x257, .f32⟩
  | .hbm, ⟨74, _⟩ => ⟨S8x16x2x8x128x257, .f32⟩
  | .hbm, ⟨75, _⟩ => ⟨S8x16x2x8x128x257, .f32⟩
  | .hbm, ⟨76, _⟩ => ⟨S_, .f32⟩
  | .hbm, ⟨77, _⟩ => ⟨S8x16x2x8x128, .f32⟩
  | .hbm, ⟨78, _⟩ => ⟨S8x16x2x8x128x1, .f32⟩
  | .hbm, ⟨79, _⟩ => ⟨S8x16x2x8x128x257, .f32⟩
  | .hbm, ⟨80, _⟩ => ⟨S8x16x2x8x128x257, .f32⟩
  | .hbm, ⟨81, _⟩ => ⟨S8x16x2x8x128x256, .f32⟩
  | .hbm, ⟨82, _⟩ => ⟨S8x16x2x64x8x128, .f32⟩
  | .hbm, ⟨83, _⟩ => ⟨S8x16x128x2x8x64, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | .hbm, ⟨87, _⟩ => ⟨S_, .f32⟩
  | .hbm, ⟨88, _⟩ => ⟨S8x2048x1024, .f32⟩
  | .hbm, ⟨89, _⟩ => ⟨S8x2048x1024, .f32⟩
  | .hbm, ⟨90, _⟩ => ⟨S_, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S16384x1024, .f32⟩
  | .hbm, ⟨96, _⟩ => ⟨S16384x1024, .bf16⟩
  | _, _ => ⟨S16384x7552, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== KProj.lean ====
abbrev S8x2048x1024 : Shape := ⟨3, ![8, 2048, 1024]⟩
abbrev S8x2048 : Shape := ⟨2, ![8, 2048]⟩
abbrev S1x1024 : Shape := ⟨2, ![1, 1024]⟩
abbrev S1x1024x7440 : Shape := ⟨3, ![1, 1024, 7440]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S16384x1 : Shape := ⟨2, ![16384, 1]⟩
abbrev S1024x7440 : Shape := ⟨2, ![1024, 7440]⟩
abbrev S1024x1024 : Shape := ⟨2, ![1024, 1024]⟩
abbrev S1024x128 : Shape := ⟨2, ![1024, 128]⟩
abbrev S1024x512 : Shape := ⟨2, ![1024, 512]⟩
abbrev S1024x16 : Shape := ⟨2, ![1024, 16]⟩
abbrev S1024x112 : Shape := ⟨2, ![1024, 112]⟩
abbrev S1024x7552 : Shape := ⟨2, ![1024, 7552]⟩
abbrev S16384x1024 : Shape := ⟨2, ![16384, 1024]⟩
abbrev S1024 : Shape := ⟨1, ![1024]⟩
abbrev S16384x7552 : Shape := ⟨2, ![16384, 7552]⟩
abbrev S512x1024 : Shape := ⟨2, ![512, 1024]⟩
abbrev S512x1 : Shape := ⟨2, ![512, 1]⟩
abbrev S512x7552 : Shape := ⟨2, ![512, 7552]⟩
abbrev S512 : Shape := ⟨1, ![512]⟩
abbrev S512x128 : Shape := ⟨2, ![512, 128]⟩
abbrev S512x512 : Shape := ⟨2, ![512, 512]⟩
abbrev S1024x384 : Shape := ⟨2, ![1024, 384]⟩
abbrev S512x384 : Shape := ⟨2, ![512, 384]⟩

abbrev nBuf : Space → Nat
  | .hbm => 37
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S1x1024, .f32⟩
  | .hbm, ⟨3, _⟩ => ⟨S1x1024x7440, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S1x32, .f32⟩
  | .hbm, ⟨13, _⟩ => ⟨S4x32, .f32⟩
  | .hbm, ⟨14, _⟩ => ⟨S128, .f32⟩
  | .hbm, ⟨15, _⟩ => ⟨S1x128, .f32⟩
  | .hbm, ⟨16, _⟩ => ⟨S16384x1, .i32⟩
  | .hbm, ⟨17, _⟩ => ⟨S1024x7440, .f32⟩
  | .hbm, ⟨18, _⟩ => ⟨S1024x1024, .f32⟩
  | .hbm, ⟨19, _⟩ => ⟨S1024x128, .f32⟩
  | .hbm, ⟨20, _⟩ => ⟨S1024x128, .f32⟩
  | .hbm, ⟨21, _⟩ => ⟨S1024x1024, .f32⟩
  | .hbm, ⟨22, _⟩ => ⟨S1024x512, .f32⟩
  | .hbm, ⟨23, _⟩ => ⟨S1024x512, .f32⟩
  | .hbm, ⟨24, _⟩ => ⟨S1024x1024, .f32⟩
  | .hbm, ⟨25, _⟩ => ⟨S1024x1024, .f32⟩
  | .hbm, ⟨26, _⟩ => ⟨S1024x16, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x112, .f32⟩
  | .hbm, ⟨31, _⟩ => ⟨S1024x7552, .f32⟩
  | .hbm, ⟨32, _⟩ => ⟨S1024x7552, .bf16⟩
  | .hbm, ⟨33, _⟩ => ⟨S16384x1024, .f32⟩
  | .hbm, ⟨34, _⟩ => ⟨S1024, .f32⟩
  | .hbm, ⟨35, _⟩ => ⟨S1x1024, .f32⟩
  | .hbm, ⟨36, _⟩ => ⟨S16384x7552, .bf16⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S1x128, .f32⟩
  | .local _ .vmem, ⟨6, _⟩ => ⟨S1024x7552, .bf16⟩
  | .local _ .vmem, ⟨7, _⟩ => ⟨S512x7552, .bf16⟩
  | .local _ .vmem, ⟨8, _⟩ => ⟨S512x7552, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x7552 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x7552 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RProjIdeal.lean ====
abbrev S8x2048x1024 : Shape := ⟨3, ![8, 2048, 1024]⟩
abbrev S8x2048 : Shape := ⟨2, ![8, 2048]⟩
abbrev S1x1024 : Shape := ⟨2, ![1, 1024]⟩
abbrev S1x1024x7440 : Shape := ⟨3, ![1, 1024, 7440]⟩
abbrev S1024 : Shape := ⟨1, ![1024]⟩
abbrev S_ : Shape := ⟨0, ![]⟩
abbrev S8x2048x1 : Shape := ⟨3, ![8, 2048, 1]⟩
abbrev S1x1x1024 : Shape := ⟨3, ![1, 1, 1024]⟩
abbrev S1024x7440 : Shape := ⟨2, ![1024, 7440]⟩
abbrev S8x2048x7440 : Shape := ⟨3, ![8, 2048, 7440]⟩
abbrev S8x2048x128 : Shape := ⟨3, ![8, 2048, 128]⟩
abbrev S8x2048x512 : Shape := ⟨3, ![8, 2048, 512]⟩
abbrev S8x2048x16 : Shape := ⟨3, ![8, 2048, 16]⟩
abbrev S32 : Shape := ⟨1, ![32]⟩
abbrev S1x1x32 : Shape := ⟨3, ![1, 1, 32]⟩
abbrev S8x2048x32 : Shape := ⟨3, ![8, 2048, 32]⟩
abbrev S8x2048x1x32 : Shape := ⟨4, ![8, 2048, 1, 32]⟩
abbrev S8x2048x16x64 : Shape := ⟨4, ![8, 2048, 16, 64]⟩
abbrev S8x2048x16x32 : Shape := ⟨4, ![8, 2048, 16, 32]⟩
abbrev S8x2048x2x64 : Shape := ⟨4, ![8, 2048, 2, 64]⟩
abbrev S8x2048x2x32 : Shape := ⟨4, ![8, 2048, 2, 32]⟩
abbrev S8x2048x112 : Shape := ⟨3, ![8, 2048, 112]⟩
abbrev S8x2048x7552 : Shape := ⟨3, ![8, 2048, 7552]⟩
abbrev S16384x7552 : Shape := ⟨2, ![16384, 7552]⟩

abbrev nBuf : Space → Nat
  | .hbm => 90
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S1x1024, .f32⟩
  | .hbm, ⟨3, _⟩ => ⟨S1x1024x7440, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x7440, .f32⟩
  | .hbm, ⟨22, _⟩ => ⟨S8x2048x7440, .f32⟩
  | .hbm, ⟨23, _⟩ => ⟨S8x2048x1024, .f32⟩
  | .hbm, ⟨24, _⟩ => ⟨S8x2048x128, .f32⟩
  | .hbm, ⟨25, _⟩ => ⟨S8x2048x128, .f32⟩
  | .hbm, ⟨26, _⟩ => ⟨S8x2048x1024, .f32⟩
  | .hbm, ⟨27, _⟩ => ⟨S8x2048x512, .f32⟩
  | .hbm, ⟨28, _⟩ => ⟨S8x2048x512, .f32⟩
  | .hbm, ⟨29, _⟩ => ⟨S8x2048x1024, .f32⟩
  | .hbm, ⟨30, _⟩ => ⟨S8x2048x1024, .f32⟩
  | .hbm, ⟨31, _⟩ => ⟨S8x2048x16, .f32⟩
  | .hbm, ⟨32, _⟩ => ⟨S8x2048x1024, .f32⟩
  | .hbm, ⟨33, _⟩ => ⟨S8x2048x1024, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S8x2048, .f32⟩
  | .hbm, ⟨43, _⟩ => ⟨S8x2048x1, .f32⟩
  | .hbm, ⟨44, _⟩ => ⟨S1x1x32, .f32⟩
  | .hbm, ⟨45, _⟩ => ⟨S8x2048x32, .f32⟩
  | .hbm, ⟨46, _⟩ => ⟨S8x2048x32, .f32⟩
  | .hbm, ⟨47, _⟩ => ⟨S8x2048x32, .f32⟩
  | .hbm, ⟨48, _⟩ => ⟨S8x2048x32, .f32⟩
  | .hbm, ⟨49, _⟩ => ⟨S8x2048x1x32, .f32⟩
  | .hbm, ⟨50, _⟩ => ⟨S8x2048x32, .f32⟩
  | .hbm, ⟨51, _⟩ => ⟨S8x2048x1x32, .f32⟩
  | .hbm, ⟨52, _⟩ => ⟨S8x2048x16x64, .f32⟩
  | .hbm, ⟨53, _⟩ => ⟨S8x2048x16x32, .f32⟩
  | .hbm, ⟨54, _⟩ => ⟨S8x2048x16x32, .f32⟩
  | .hbm, ⟨55, _⟩ => ⟨S8x2048x16x32, .f32⟩
  | .hbm, ⟨56, _⟩ => ⟨S8x2048x16x32, .f32⟩
  | .hbm, ⟨57, _⟩ => ⟨S8x2048x16x32, .f32⟩
  | .hbm, ⟨58, _⟩ => ⟨S8x2048x16x32, .f32⟩
  | .hbm, ⟨59, _⟩ => ⟨S8x2048x16x32, .f32⟩
  | .hbm, ⟨60, _⟩ => ⟨S8x2048x16x32, .f32⟩
  | .hbm, ⟨61, _⟩ => ⟨S8x2048x16x32, .f32⟩
  | .hbm, ⟨62, _⟩ => ⟨S8x2048x16x32, .f32⟩
  | .hbm, ⟨63, _⟩ => ⟨S8x2048x16x32, .f32⟩
  | .hbm, ⟨64, _⟩ => ⟨S8x2048x16x32, .f32⟩
  | .hbm, ⟨65, _⟩ => ⟨S8x2048x16x64, .f32⟩
  | .hbm, ⟨66, _⟩ => ⟨S8x2048x1024, .f32⟩
  | .hbm, ⟨67, _⟩ => ⟨S_, .f32⟩
  | .hbm, ⟨68, _⟩ => ⟨S8x2048x1024, .f32⟩
  | .hbm, ⟨69, _⟩ => ⟨S8x2048x1024, .f32⟩
  | .hbm, ⟨70, _⟩ => ⟨S8x2048x2x64, .f32⟩
  | .hbm, ⟨71, _⟩ => ⟨S8x2048x2x32, .f32⟩
  | .hbm, ⟨72, _⟩ => ⟨S8x2048x2x32, .f32⟩
  | .hbm, ⟨73, _⟩ => ⟨S8x2048x2x32, .f32⟩
  | .hbm, ⟨74, _⟩ => ⟨S8x2048x2x32, .f32⟩
  | .hbm, ⟨75, _⟩ => ⟨S8x2048x2x32, .f32⟩
  | .hbm, ⟨76, _⟩ => ⟨S8x2048x2x32, .f32⟩
  | .hbm, ⟨77, _⟩ => ⟨S8x2048x2x32, .f32⟩
  | .hbm, ⟨78, _⟩ => ⟨S8x2048x2x32, .f32⟩
  | .hbm, ⟨79, _⟩ => ⟨S8x2048x2x32, .f32⟩
  | .hbm, ⟨80, _⟩ => ⟨S8x2048x2x32, .f32⟩
  | .hbm, ⟨81, _⟩ => ⟨S8x2048x2x32, .f32⟩
  | .hbm, ⟨82, _⟩ => ⟨S8x2048x2x32, .f32⟩
  | .hbm, ⟨83, _⟩ => ⟨S8x2048x2x64, .f32⟩
  | .hbm, ⟨84, _⟩ => ⟨S8x2048x128, .f32⟩
  | .hbm, ⟨85, _⟩ => ⟨S_, .f32⟩
  | .hbm, ⟨86, _⟩ => ⟨S8x2048x112, .f32⟩
  | .hbm, ⟨87, _⟩ => ⟨S8x2048x7552, .f32⟩
  | .hbm, ⟨88, _⟩ => ⟨S16384x7552, .f32⟩
  | .hbm, ⟨89, _⟩ => ⟨S16384x7552, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_cst_5 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩

abbrev nD : Nat := 1
abbrev τ : Topo := Topo.v7x

variable {F : FTy → Type} [FloatOps F]
-- ==== KOut.lean ====
abbrev S8x2048x1024 : Shape := ⟨3, ![8, 2048, 1024]⟩
abbrev S16384x1024 : Shape := ⟨2, ![16384, 1024]⟩
abbrev S16384x7552 : Shape := ⟨2, ![16384, 7552]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S16384x1024, .bf16⟩
  | .hbm, ⟨3, _⟩ => ⟨S16384x7552, .bf16⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1024, .f32⟩
  | .hbm, ⟨8, _⟩ => ⟨S16384x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ROutIdeal.lean ====
abbrev S8x2048x1024 : Shape := ⟨3, ![8, 2048, 1024]⟩
abbrev S16384x1024 : Shape := ⟨2, ![16384, 1024]⟩
abbrev S16384x7552 : Shape := ⟨2, ![16384, 7552]⟩
abbrev S1x1024x1024 : Shape := ⟨3, ![1, 1024, 1024]⟩
abbrev S1024 : Shape := ⟨1, ![1024]⟩
abbrev S8x2048x7552 : Shape := ⟨3, ![8, 2048, 7552]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S16384x1024, .bf16⟩
  | .hbm, ⟨3, _⟩ => ⟨S16384x7552, .bf16⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1024, .f32⟩
  | .hbm, ⟨8, _⟩ => ⟨S16384x7552, .f32⟩
  | .hbm, ⟨9, _⟩ => ⟨S8x2048x7552, .f32⟩
  | .hbm, ⟨10, _⟩ => ⟨S8x2048x1024, .f32⟩
  | .hbm, ⟨11, _⟩ => ⟨S8x2048x1024, .f32⟩
  | .hbm, ⟨12, _⟩ => ⟨S16384x1024, .f32⟩
  | .hbm, ⟨13, _⟩ => ⟨S8x2048x1024, .f32⟩
  | .hbm, ⟨14, _⟩ => ⟨S16384x1024, .f32⟩
  | .hbm, ⟨15, _⟩ => ⟨S8x2048x1024, .f32⟩
  | .hbm, ⟨16, _⟩ => ⟨S1024x1024, .f32⟩
  | .hbm, ⟨17, _⟩ => ⟨S8x2048x1024, .f32⟩
  | .hbm, ⟨18, _⟩ => ⟨S1024x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S1024x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Proof.SwaMath.lean ====
/- A softmax with a sink at the extended reals: the sink put among the keys with a zero value, or after them and left out of the sum. -/
module

public import Idealize.ShloMosaic.PureOps.Ideal
public import Mathlib.Data.EReal.Inv
public import Mathlib.Algebra.BigOperators.Fin
public import Idealize.ShloMosaic.Lib.Pointwise

@[expose] public section

noncomputable section

open Idealize.ShloMosaic

namespace Cert.SwaMath

/-- The maximum the programs reduce with, as a supremum. -/
theorem fold_max {ι : Type} (s : Finset ι) (f : ι → EReal) : Finset.fold max ⊥ f s = s.sup f := rfl

/-- The exponential of what lies below a real number, less that number: it is not negative and at most one. -/
theorem exp_sub_range (x : EReal) (r : ℝ) (h : x ≤ r) : 0 ≤ Ideal.exp (x - r) ∧ Ideal.exp (x - r) ≤ 1 := by
  induction x with
  | bot => rw [EReal.bot_sub, Ideal.exp_bot]; exact ⟨le_refl _, zero_le_one⟩
  | top => exact absurd (top_le_iff.1 h) (EReal.coe_ne_top r)
  | coe x =>
    have h' : x ≤ r := EReal.coe_le_coe_iff.1 h
    rw [← EReal.coe_sub, Ideal.exp_coe]
    exact ⟨EReal.coe_nonneg.2 (Real.exp_nonneg _), by
      rw [← EReal.coe_one, EReal.coe_le_coe_iff, Real.exp_le_one_iff]; linarith⟩

/-- A product with the sum's divisor comes out of a sum. -/
theorem sum_mul_coe {ι : Type} (s : Finset ι) (f : ι → EReal) (r : EReal) (h0 : 0 ≤ r) (h1 : r ≠ ⊤) :
    (∑ k ∈ s, f k) * r = ∑ k ∈ s, f k * r := by
  classical
  induction s using Finset.induction_on with
  | empty => simp
  | insert a s ha ih =>
    rw [Finset.sum_insert ha, Finset.sum_insert ha, ← ih, EReal.right_distrib_of_nonneg_of_ne_top h0 h1]

/-- A finite sum of real numbers is a real number. -/
theorem sum_real {ι : Type} (s : Finset ι) (f : ι → EReal) (hf : ∀ k ∈ s, ∃ x : ℝ, f k = x) : ∃ x : ℝ, ∑ k ∈ s, f k = x := by
  classical
  induction s using Finset.induction_on with
  | empty => exact ⟨0, by simp⟩
  | insert a s ha ih =>
    obtain ⟨x, hx⟩ := hf a (Finset.mem_insert_self a s)
    obtain ⟨y, hy⟩ := ih fun k hk => hf k (Finset.mem_insert_of_mem hk)
    exact ⟨x + y, by rw [Finset.sum_insert ha, hx, hy, EReal.coe_add]⟩

/-- Scores with the sink at the first of the keys. -/
def inner (valid : Fin 256 → Prop) [DecidablePred valid] (s : Fin 256 → EReal) (sink : EReal) (k : Fin 256) : EReal :=
  if k.val = 0 then sink else if valid k then s k else ⊥

/-- Scores with the sink after all the keys. -/
def outer (valid : Fin 256 → Prop) [DecidablePred valid] (s : Fin 256 → EReal) (sink : EReal) (k : Fin 257) : EReal :=
  if h : k.val < 256 then if valid ⟨k.val, h⟩ then s ⟨k.val, h⟩ else ⊥ else sink

/-- The two softmaxes weigh the values alike. -/
theorem softmax_sink (valid : Fin 256 → Prop) [DecidablePred valid] (s v s' v' : Fin 256 → EReal) (sink : ℝ)
    (h0 : ¬ valid 0) (hs : ∀ k, valid k → ∃ x : ℝ, s k = x) (hss : ∀ k, valid k → s' k = s k) (hv : ∀ k, valid k → v' k = v k) :
    Ideal.div (∑ k, Ideal.exp (inner valid s sink k - Finset.univ.sup (inner valid s sink)) * (if k.val = 0 then 0 else v k))
        (∑ k, Ideal.exp (inner valid s sink k - Finset.univ.sup (inner valid s sink)))
      = ∑ k : Fin 256, Ideal.div (Ideal.exp (outer valid s' sink k.castSucc - Finset.univ.sup (outer valid s' sink)))
          (∑ k, Ideal.exp (outer valid s' sink k - Finset.univ.sup (outer valid s' sink))) * v' k := by
  have hcs : ∀ k : Fin 256, outer valid s' sink k.castSucc = if valid k then s k else ⊥ := by
    intro k
    unfold outer
    rw [dif_pos (show (Fin.castSucc k).val < 256 from k.isLt)]
    by_cases hk : valid k
    · rw [if_pos hk, if_pos (show valid ⟨(Fin.castSucc k).val, k.isLt⟩ from hk)]; exact hss k hk
    · rw [if_neg hk, if_neg (show ¬ valid ⟨(Fin.castSucc k).val, k.isLt⟩ from hk)]
  have hlast : outer valid s' sink (Fin.last 256) = sink := by
    unfold outer; rw [dif_neg (show ¬ (Fin.last 256).val < 256 by decide)]
  have hin0 : inner valid s sink 0 = sink := if_pos rfl
  have hin : ∀ k : Fin 256, k ≠ 0 → inner valid s sink k = if valid k then s k else ⊥ := fun k hk =>
    if_neg fun h => hk (Fin.ext h)
  -- the two maxima agree
  have hM : Finset.univ.sup (outer valid s' sink) = Finset.univ.sup (inner valid s sink) := by
    apply le_antisymm
    · refine Finset.sup_le fun k _ => ?_
      refine Fin.lastCases ?_ (fun k => ?_) k
      · rw [hlast, ← hin0]; exact Finset.le_sup (Finset.mem_univ _)
      · rw [hcs]
        by_cases hk : valid k
        · have hk0 : k ≠ 0 := fun h => h0 (h ▸ hk)
          rw [← hin k hk0]; exact Finset.le_sup (Finset.mem_univ _)
        · rw [if_neg hk]; exact bot_le
    · refine Finset.sup_le fun k _ => ?_
      by_cases hk : k = 0
      · rw [hk, hin0, ← hlast]; exact Finset.le_sup (Finset.mem_univ _)
      · rw [hin k hk, ← hcs]; exact Finset.le_sup (Finset.mem_univ _)
  -- it is a real number
  obtain ⟨M, hMr⟩ : ∃ M : ℝ, Finset.univ.sup (inner valid s sink) = M := by
    have hle : (sink : EReal) ≤ Finset.univ.sup (inner valid s sink) := by
      rw [← hin0]; exact Finset.le_sup (Finset.mem_univ _)
    have hlt : Finset.univ.sup (inner valid s sink) < ⊤ := by
      refine (Finset.sup_lt_iff (bot_lt_top)).2 fun k _ => ?_
      by_cases hk : k = 0
      · rw [hk, hin0]; exact EReal.coe_lt_top _
      · rw [hin k hk]
        by_cases hv' : valid k
        · obtain ⟨x, hx⟩ := hs k hv'; rw [if_pos hv', hx]; exact EReal.coe_lt_top _
        · rw [if_neg hv']; exact bot_lt_top
    exact ⟨_, (EReal.coe_toReal hlt.ne (fun h => by rw [h] at hle; exact absurd (le_bot_iff.1 hle) (EReal.coe_ne_bot _))).symm⟩
  rw [hM, hMr]
  have hle : ∀ k, inner valid s sink k ≤ (M : EReal) := fun k => hMr ▸ Finset.le_sup (Finset.mem_univ k)
  have hsM : (sink : EReal) ≤ M := by rw [← hin0]; exact hle 0
  -- the two denominators agree
  have hz : ∀ k : Fin 256, ¬ valid k → Ideal.exp ((if valid k then s k else ⊥) - (M : EReal)) = 0 := fun k hk => by
    rw [if_neg hk, EReal.bot_sub, Ideal.exp_bot]
  have hD : (∑ k, Ideal.exp (outer valid s' sink k - (M : EReal))) = ∑ k, Ideal.exp (inner valid s sink k - (M : EReal)) := by
    rw [Fin.sum_univ_castSucc, hlast, add_comm, ← Finset.add_sum_erase Finset.univ _ (Finset.mem_univ (0 : Fin 256)),
      ← Finset.add_sum_erase Finset.univ (fun k => Ideal.exp (inner valid s sink k - (M : EReal))) (Finset.mem_univ (0 : Fin 256))]
    simp only [hcs]
    rw [hz 0 h0, zero_add, hin0]
    refine congrArg _ (Finset.sum_congr rfl fun k hk => ?_)
    rw [hin k (Finset.ne_of_mem_erase hk)]
  rw [hD]
  -- the denominator is a positive real number
  have hr : ∀ k, 0 ≤ Ideal.exp (inner valid s sink k - (M : EReal)) ∧ Ideal.exp (inner valid s sink k - (M : EReal)) ≤ 1 := fun k =>
    exp_sub_range _ M (hle k)
  obtain ⟨D, hDr⟩ : ∃ D : ℝ, (∑ k, Ideal.exp (inner valid s sink k - (M : EReal))) = D := by
    refine sum_real _ _ fun k _ => ⟨_, (EReal.coe_toReal ?_ ?_).symm⟩
    · exact fun h => absurd (hr k).2 (by rw [h]; decide)
    · exact fun h => absurd (hr k).1 (by rw [h]; decide)
  have hDpos : (0 : EReal) < D := by
    rw [← hDr]
    refine lt_of_lt_of_le ?_ (Finset.single_le_sum (fun k _ => (hr k).1) (Finset.mem_univ (0 : Fin 256)))
    rw [hin0, ← EReal.coe_sub, Ideal.exp_coe]
    exact EReal.coe_pos.2 (Real.exp_pos _)
  rw [hDr]
  have hdiv : ∀ x : EReal, Ideal.div x D = x * (D : EReal)⁻¹ := fun x => if_neg hDpos.ne'
  have hi0 : (0 : EReal) ≤ (D : EReal)⁻¹ := EReal.inv_nonneg_of_nonneg hDpos.le
  have hi1 : (D : EReal)⁻¹ ≠ ⊤ := by rw [← EReal.coe_inv]; exact EReal.coe_ne_top _
  simp only [hdiv, hcs]
  rw [sum_mul_coe _ _ _ hi0 hi1]
  refine Finset.sum_congr rfl fun k _ => ?_
  by_cases hk : k = 0
  · rw [hk, hz 0 h0, if_pos (show ((0 : Fin 256).val = 0) from rfl), mul_zero, zero_mul, zero_mul]
  · rw [if_neg (show ¬ k.val = 0 from fun h => hk (Fin.ext h)), hin k hk]
    by_cases hvk : valid k
    · rw [hv k hvk, mul_assoc, mul_assoc, mul_comm (v k)]
    · rw [hz k hvk, zero_mul, zero_mul, zero_mul]

/-- The values' mean under the scores' softmax. -/
def soft (S V : Fin 256 → EReal) : EReal :=
  Ideal.div (∑ k, Ideal.exp (S k - Finset.univ.sup S) * V k) (∑ k, Ideal.exp (S k - Finset.univ.sup S))

/-- A sum over the rows of a block-diagonal matrix's column keeps the column's own block. -/
theorem sum_block (f w : Fin 256 → EReal) (u : Fin 64 → EReal) (h : Fin 4)
    (hw : ∀ x : Fin 256, w x = if x.val / 64 = h.val then u ⟨x.val % 64, by omega⟩ else 0) :
    ∑ x, f x * w x = ∑ d : Fin 64, f ⟨64 * h.val + d.val, by omega⟩ * u d := by
  rw [← (finProdFinEquiv (m := 4) (n := 64)).sum_comp, Fintype.sum_prod_type, Finset.sum_eq_single h]
  · refine Finset.sum_congr rfl fun d _ => ?_
    rw [hw, if_pos (by show (d.val + 64 * h.val) / 64 = h.val; omega)]
    exact congrArg₂ (fun a b => f a * u b) (Fin.ext (by show d.val + 64 * h.val = 64 * h.val + d.val; omega))
      (Fin.ext (by show (d.val + 64 * h.val) % 64 = d.val; omega))
  · intro i _ hi
    refine Finset.sum_eq_zero fun d _ => ?_
    rw [hw, if_neg (fun e => hi (Fin.ext (by rw [← e]; show i.val = (d.val + 64 * i.val) / 64; omega))), mul_zero]
  · exact fun hn => absurd (Finset.mem_univ h) hn

/-- Two heads' weights side by side against the two halves of a stacked value matrix: the numerator and the row sum of the head picked. -/
theorem quot (c : BitVec 1) (hc : c = 1#1 ∨ c = 0#1) (ea eb A B : Fin 256 → EReal) :
    Ideal.div (∑ x : Fin 512, (if h : x.val < 256 then ea ⟨x.val, h⟩ else eb ⟨x.val - 256, by omega⟩)
        * (if h : x.val < 256 then Scalar.select c (A ⟨x.val, h⟩) 0 else Scalar.select c 0 (B ⟨x.val - 256, by omega⟩)))
      (∑ x, Scalar.select c (ea x) 0 + ∑ x, Scalar.select c 0 (eb x))
      = Scalar.select c (Ideal.div (∑ k, ea k * A k) (∑ k, ea k)) (Ideal.div (∑ k, eb k * B k) (∑ k, eb k)) := by
  have hsum : ∀ f : Fin 512 → EReal, ∑ x, f x = ∑ k : Fin 256, f ⟨k.val, by omega⟩ + ∑ k : Fin 256, f ⟨256 + k.val, by omega⟩ :=
    fun f => Fin.sum_univ_add (a := 256) (b := 256) f
  have hlo : ∀ k : Fin 256, k.val < 256 := fun k => k.isLt
  have hhi : ∀ k : Fin 256, ¬ 256 + k.val < 256 := fun k => by omega
  have hk : ∀ (f : Fin 256 → EReal) (k : Fin 256) (p : 256 + k.val - 256 < 256), f ⟨256 + k.val - 256, p⟩ = f k :=
    fun f k p => congrArg f (Fin.ext (by show 256 + k.val - 256 = k.val; omega))
  rw [hsum]
  simp only [dif_pos (hlo _), dif_neg (hhi _), hk]
  have s1 : ∀ a b : EReal, Scalar.select 1#1 a b = a := fun _ _ => rfl
  have s0 : ∀ a b : EReal, Scalar.select 0#1 a b = b := fun _ _ => rfl
  rcases hc with rfl | rfl
  · simp only [s1, mul_zero, Finset.sum_const_zero, add_zero]
  · simp only [s0, mul_zero, Finset.sum_const_zero, zero_add]

end Cert.SwaMath
end
-- ==== Proof.SwaBias.lean ====
/- The biases the sliding-window attention keeps in its scratch: the sinks, the window and the head of a sequence. -/
module

public import proofs.«01_k».proof.Defs
public import proofs.«01_k».proof.Proof.Gen.KSwaIdeal.Value
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KSwaIdeal.Value
open Cert.KSwaIdeal Cert.KSwaIdeal.Gen

variable (m : (ℓ : Loc nD τ sig) → Buf (Elt Ideal) ℓ)

/-- The biases the kernel keeps: the head's sink at the window's first column, zero inside the window, minus infinity outside. -/
def biasAt (sink : Fin 16 → EReal) (f g : Fin 2) (R : Fin 256) (C : Fin 1024) : EReal :=
  if C.val % 256 = 0 then sink ⟨8 * g.val + 4 * (R.val / 128) + C.val / 256, by omega⟩
  else if (f.val = 1 → 128 ≤ C.val % 256) ∧ C.val % 256 ≤ R.val % 128 + 128 ∧ R.val % 128 < C.val % 256 then 0 else ⊥

/-- A row's half of the stacked queries, as the kernel computes it. -/
theorem row_div : ∀ R : Fin 256, (Scalar.select
              (IntOp.andi
                (IntOp.cmpi CmpIPredicate.ne
                  (IntOp.subi (BitVec.setWidth 32 (IntOp.cmpi CmpIPredicate.sgt (BitVec.ofNat 32 R.val) 0#32))
                    (BitVec.setWidth 32 (IntOp.cmpi CmpIPredicate.slt (BitVec.ofNat 32 R.val) 0#32)))
                  1#32)
                (IntOp.cmpi CmpIPredicate.ne (IntOp.remsi ArithUnit.vector (BitVec.ofNat 32 R.val) 128#32) 0#32))
              (IntOp.subi (IntOp.divsi ArithUnit.vector (BitVec.ofNat 32 R.val) 128#32) 1#32)
              (IntOp.divsi ArithUnit.vector (BitVec.ofNat 32 R.val) 128#32)) = BitVec.ofNat 32 (R.val / 128) := by
  decide +kernel

/-- A column's head among the four stacked side by side. -/
theorem col_div : ∀ C : Fin 1024, (Scalar.select
              (IntOp.andi
                (IntOp.cmpi CmpIPredicate.ne
                  (IntOp.subi (BitVec.setWidth 32 (IntOp.cmpi CmpIPredicate.sgt (BitVec.ofNat 32 C.val) 0#32))
                    (BitVec.setWidth 32 (IntOp.cmpi CmpIPredicate.slt (BitVec.ofNat 32 C.val) 0#32)))
                  1#32)
                (IntOp.cmpi CmpIPredicate.ne (IntOp.remsi ArithUnit.vector (BitVec.ofNat 32 C.val) 256#32) 0#32))
              (IntOp.subi (IntOp.divsi ArithUnit.vector (BitVec.ofNat 32 C.val) 256#32) 1#32)
              (IntOp.divsi ArithUnit.vector (BitVec.ofNat 32 C.val) 256#32)) = BitVec.ofNat 32 (C.val / 256) := by
  decide +kernel

/-- A row's query within its block. -/
theorem row_mod : ∀ R : Fin 256, (Scalar.select
        (IntOp.andi
          (IntOp.xori (IntOp.cmpi CmpIPredicate.slt (IntOp.remsi ArithUnit.vector (BitVec.ofNat 32 R.val) 128#32) 0#32)
            0#1)
          (IntOp.cmpi CmpIPredicate.ne (IntOp.remsi ArithUnit.vector (BitVec.ofNat 32 R.val) 128#32) 0#32))
        (IntOp.addi (IntOp.remsi ArithUnit.vector (BitVec.ofNat 32 R.val) 128#32) 128#32)
        (IntOp.remsi ArithUnit.vector (BitVec.ofNat 32 R.val) 128#32)) = BitVec.ofNat 32 (R.val % 128) := by
  decide +kernel

/-- A column's key within the two blocks it sees. -/
theorem col_mod : ∀ C : Fin 1024, (Scalar.select
        (IntOp.andi
          (IntOp.xori (IntOp.cmpi CmpIPredicate.slt (IntOp.remsi ArithUnit.vector (BitVec.ofNat 32 C.val) 256#32) 0#32)
            0#1)
          (IntOp.cmpi CmpIPredicate.ne (IntOp.remsi ArithUnit.vector (BitVec.ofNat 32 C.val) 256#32) 0#32))
        (IntOp.addi (IntOp.remsi ArithUnit.vector (BitVec.ofNat 32 C.val) 256#32) 256#32)
        (IntOp.remsi ArithUnit.vector (BitVec.ofNat 32 C.val) 256#32)) = BitVec.ofNat 32 (C.val % 256) := by
  decide +kernel

theorem sel128 : Scalar.select (Scalar.cmpi CmpIPredicate.eq 128#32 0#32) 1#32 128#32 = 128#32 := rfl
theorem sel256 : Scalar.select (Scalar.cmpi CmpIPredicate.eq 256#32 0#32) 1#32 256#32 = 256#32 := rfl
theorem neg128 : Scalar.cmpi CmpIPredicate.slt 128#32 0#32 = 0#1 := rfl
theorem neg256 : Scalar.cmpi CmpIPredicate.slt 256#32 0#32 = 0#1 := rfl

/-- Whether a key lies in a query's window. -/
theorem band_eq : ∀ (q : Fin 128) (k : Fin 256), IntOp.andi
    (IntOp.cmpi CmpIPredicate.sge (IntOp.subi (IntOp.addi (BitVec.ofNat 32 q.val) 128#32) (BitVec.ofNat 32 k.val)) 0#32)
    (IntOp.cmpi CmpIPredicate.slt (IntOp.subi (IntOp.addi (BitVec.ofNat 32 q.val) 128#32) (BitVec.ofNat 32 k.val)) 128#32)
      = BitVec.ofBool (decide (k.val ≤ q.val + 128 ∧ q.val < k.val)) := by
  decide +kernel

/-- Whether a key lies in the query's own block. -/
theorem own_eq : ∀ k : Fin 256, IntOp.cmpi CmpIPredicate.sge (BitVec.ofNat 32 k.val) 128#32 = BitVec.ofBool (decide (128 ≤ k.val)) := by
  decide +kernel

/-- The first column. -/
theorem zero_eq : ∀ k : Fin 256, IntOp.cmpi CmpIPredicate.eq (BitVec.ofNat 32 k.val) 0#32 = BitVec.ofBool (decide (k.val = 0)) := by
  decide +kernel

/-- The eight sinks of a group, picked by the row's half and the column's head. -/
theorem pick (a : Fin 2) (b : Fin 4) (s : Fin 8 → EReal) :
    Scalar.select (IntOp.andi (IntOp.cmpi CmpIPredicate.eq (BitVec.ofNat 32 a.val) 1#32) (IntOp.cmpi CmpIPredicate.eq (BitVec.ofNat 32 b.val) 3#32)) (s 7)
    (Scalar.select (IntOp.andi (IntOp.cmpi CmpIPredicate.eq (BitVec.ofNat 32 a.val) 1#32) (IntOp.cmpi CmpIPredicate.eq (BitVec.ofNat 32 b.val) 2#32)) (s 6)
    (Scalar.select (IntOp.andi (IntOp.cmpi CmpIPredicate.eq (BitVec.ofNat 32 a.val) 1#32) (IntOp.cmpi CmpIPredicate.eq (BitVec.ofNat 32 b.val) 1#32)) (s 5)
    (Scalar.select (IntOp.andi (IntOp.cmpi CmpIPredicate.eq (BitVec.ofNat 32 a.val) 1#32) (IntOp.cmpi CmpIPredicate.eq (BitVec.ofNat 32 b.val) 0#32)) (s 4)
    (Scalar.select (IntOp.andi (IntOp.cmpi CmpIPredicate.eq (BitVec.ofNat 32 a.val) 0#32) (IntOp.cmpi CmpIPredicate.eq (BitVec.ofNat 32 b.val) 3#32)) (s 3)
    (Scalar.select (IntOp.andi (IntOp.cmpi CmpIPredicate.eq (BitVec.ofNat 32 a.val) 0#32) (IntOp.cmpi CmpIPredicate.eq (BitVec.ofNat 32 b.val) 2#32)) (s 2)
    (Scalar.select (IntOp.andi (IntOp.cmpi CmpIPredicate.eq (BitVec.ofNat 32 a.val) 0#32) (IntOp.cmpi CmpIPredicate.eq (BitVec.ofNat 32 b.val) 1#32)) (s 1)
    (Scalar.select (IntOp.andi (IntOp.cmpi CmpIPredicate.eq (BitVec.ofNat 32 a.val) 0#32) (IntOp.cmpi CmpIPredicate.eq (BitVec.ofNat 32 b.val) 0#32)) (s 0) 0)))))))
      = s ⟨4 * a.val + b.val, by omega⟩ := by
  fin_cases a <;> fin_cases b <;> rfl

/-- A choice on a truth value. -/
theorem sel_bool (p : Prop) [Decidable p] (x y : EReal) : Scalar.select (BitVec.ofBool (decide p)) x y = if p then x else y := by
  by_cases h : p
  · rw [if_pos h, decide_eq_true h]; rfl
  · rw [if_neg h, decide_eq_false h]; rfl

theorem and_bool (p q : Prop) [Decidable p] [Decidable q] :
    IntOp.andi (BitVec.ofBool (decide p)) (BitVec.ofBool (decide q)) = BitVec.ofBool (decide (p ∧ q)) := by
  by_cases hp : p <;> by_cases hq : q <;> simp [hp, hq] <;> rfl

/-- The three cases of a bias. -/
theorem close_bias (sink : Fin 16 → EReal) (f g : Fin 2) (R : Fin 256) (C : Fin 1024) (p : Prop) [Decidable p] (X Y : EReal)
    (hp : p ↔ ((f.val = 1 → 128 ≤ C.val % 256) ∧ C.val % 256 ≤ R.val % 128 + 128 ∧ R.val % 128 < C.val % 256))
    (hX : X = sink ⟨8 * g.val + 4 * (R.val / 128) + C.val / 256, by omega⟩) (hY : Y = ⊥) :
    (if C.val % 256 = 0 then X else if p then 0 else Y) = biasAt sink f g R C := by
  unfold biasAt
  simp only [hX, hY, hp]

/-- What the head of the grid leaves in the scratch. -/
theorem scratchA (c : Dev nD) (t : Fin cfg0.N) (ht : t.val % 128 = 0) (f g : Fin 2) (R : Fin 256) (C : Fin 1024) :
    (outsAt0 m c t.val t.isLt).2 (ix4 f g R C) = biasAt (fun k => iblk m c 0 t (ix1 k)) f g R C := by
  have eR : BitVec.ofNat 32 (R.val / 128) = BitVec.ofNat 32 ((⟨R.val / 128, by omega⟩ : Fin 2).val) := rfl
  have eC : BitVec.ofNat 32 (C.val / 256) = BitVec.ofNat 32 ((⟨C.val / 256, by omega⟩ : Fin 4).val) := rfl
  have eb := band_eq ⟨R.val % 128, by omega⟩ ⟨C.val % 256, by omega⟩
  have eo := own_eq ⟨C.val % 256, by omega⟩
  have ez := zero_eq ⟨C.val % 256, by omega⟩
  dsimp only at eb eo ez
  rw [outsAt0_A m c t ht]; frame_out
  canon_tiles x h
  all_goals (
    obtain ⟨a, b, R', C', rfl⟩ : ∃ (a b : Fin 1) (R : Fin 256) (C : Fin 1024), x = ix4 a b R C := ⟨x 0, x 1, x 2, x 3, eq_ix4 x⟩
    obtain rfl : R = R' := Fin.ext (by simpa using h2)
    obtain rfl : C = C' := Fin.ext (by simpa using h3)
    obtain rfl : a = 0 := Subsingleton.elim _ _
    obtain rfl : b = 0 := Subsingleton.elim _ _
    simp only [ix4_0, ix4_1, Fin.val_zero, Nat.add_zero] at h0 h1
    clear h2 h3 x0_lt x1_lt x2_lt x3_lt
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49]
    simp only [sel128, sel256, neg128, neg256, row_div, col_div, row_mod, col_mod]
    rw [eR, eC]
    simp only [eb, eo, ez, and_bool, sel_bool]
    clear eb eo ez eR eC)
  case piece0 | piece1 =>
    refine close_bias _ f g R C _ _ _ (by omega) ((pick ⟨R.val / 128, by omega⟩ ⟨C.val / 256, by omega⟩
      (fun k => iblk m c 0 t (ix1 ⟨8 + k.val, by omega⟩))).trans (congrArg (fun k => iblk m c 0 t (ix1 k)) (Fin.ext ?_))) rfl
    show 8 + (4 * (R.val / 128) + C.val / 256) = 8 * g.val + 4 * (R.val / 128) + C.val / 256
    omega
  all_goals (
    refine close_bias _ f g R C _ _ _ (by omega) ((pick ⟨R.val / 128, by omega⟩ ⟨C.val / 256, by omega⟩
      (fun k => iblk m c 0 t (ix1 ⟨k.val, by omega⟩))).trans (congrArg (fun k => iblk m c 0 t (ix1 k)) (Fin.ext ?_))) rfl
    show 4 * (R.val / 128) + C.val / 256 = 8 * g.val + 4 * (R.val / 128) + C.val / 256
    omega)

end Cert.KSwaIdeal.Value
end
-- ==== Proof.SwaRow.lean ====
/- One row of the sliding-window attention, from the blocks the kernel reads. -/
module

public import proofs.«01_k».proof.Defs
public import proofs.«01_k».proof.Proof.Gen.KSwaIdeal.Value
public import proofs.«01_k».proof.Proof.SwaMath
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KSwaIdeal.Value
open Cert.SwaMath Cert.KSwaIdeal Cert.KSwaIdeal.Gen

/-- Lane `l` of the keys (or values) a query block sees: the previous block's rows, then its own, the first row cleared. -/
def seen (p c : Vec Ideal S128x128 .bf16) (l : Fin 128) (k : Fin 256) : EReal :=
  if k.val = 0 then 0 else if h : k.val < 128 then p (ix2 ⟨k.val, h⟩ l) else c (ix2 ⟨k.val - 128, by omega⟩ l)

/-- A stacked query row of a group. -/
def query (q0 q1 : Vec Ideal S128x256 .bf16) (R x : Fin 256) : EReal :=
  if h : R.val < 128 then q0 (ix2 ⟨R.val, h⟩ x) else q1 (ix2 ⟨R.val - 128, by omega⟩ x)

/-- A stacked score: the query's head against the key, with the bias. -/
def score (p c : Vec Ideal S128x128 .bf16) (q0 q1 : Vec Ideal S128x256 .bf16) (B : Vec Ideal S1x1x256x1024 .f32) (g : Fin 2) (R : Fin 256) (C : Fin 1024) : EReal :=
  ∑ d : Fin 64, query q0 q1 R ⟨64 * (C.val / 256) + d.val, by omega⟩ * seen p c ⟨64 * g.val + d.val, by omega⟩ ⟨C.val % 256, by omega⟩ + B (ix4 0 0 R C)

theorem zero_word : ∀ k : Fin 256, IntOp.cmpi CmpIPredicate.eq (BitVec.ofNat 32 k.val) 0#32 = if k.val = 0 then 1#1 else 0#1 := by
  decide +kernel

theorem low_word : ∀ k : Fin 128, IntOp.cmpi CmpIPredicate.slt (BitVec.ofNat 32 k.val) 64#32 = if k.val < 64 then 1#1 else 0#1 := by
  decide +kernel

/-- The kernel's cleared, stacked keys read at a row and a lane. -/
theorem seen_read (p c : Vec Ideal S128x128 .bf16) (l : Fin 128) (k : Fin 256) (n : Nat) (hn : n = k.val) (l1 l2 : Fin 128) (h1 : l1 = l) (h2 : l2 = l) :
    Scalar.select (IntOp.cmpi CmpIPredicate.eq (BitVec.ofNat 32 n) 0#32) 0
      (if h : n < 128 then p (ix2 ⟨n, h⟩ l1) else c (ix2 ⟨n - 128, by omega⟩ l2)) = seen p c l k := by
  subst hn h1 h2
  rw [zero_word, seen]
  by_cases h : k.val = 0
  · rw [if_pos h, if_pos h]; rfl
  · rw [if_neg h, if_neg h]; rfl

set_option maxHeartbeats 1000000 in
/-- The first group's scores. -/
theorem score0 (p c : Vec Ideal S128x128 .bf16) (q0 q1 : Vec Ideal S128x256 .bf16) (B : Vec Ideal S1x1x256x1024 .f32) (R : Fin 256) (C : Fin 1024) :
    k0_pay58 (k0_pay51 p c) q0 q1 B (ix2 R C) = score p c q0 q1 B 0 R C := by
  pointwise [k0_pay58, k0_pay51, k0_pay56]
  unfold score
  refine congrArg (· + _) (sum_block (query q0 q1 R) _ _ ⟨C.val / 256, by omega⟩ fun x => ?_)
  dsimp only
  have hx := x.isLt
  have hC := C.isLt
  have hx4 : x.val < 64 ∨ (¬ x.val < 64 ∧ x.val - 64 < 64) ∨ (¬ x.val < 64 ∧ ¬ x.val - 64 < 64 ∧ x.val - 64 - 64 < 64)
    ∨ (¬ x.val < 64 ∧ ¬ x.val - 64 < 64 ∧ ¬ x.val - 64 - 64 < 64) := by omega
  have hC4 : C.val < 256 ∨ (¬ C.val < 256 ∧ C.val - 256 < 256) ∨ (¬ C.val < 256 ∧ ¬ C.val - 256 < 256 ∧ C.val - 256 - 256 < 256)
    ∨ (¬ C.val < 256 ∧ ¬ C.val - 256 < 256 ∧ ¬ C.val - 256 - 256 < 256) := by omega
  rcases hx4 with x1 | ⟨x1, x2⟩ | ⟨x1, x2, x3⟩ | ⟨x1, x2, x3⟩ <;> rcases hC4 with c1 | ⟨c1, c2⟩ | ⟨c1, c2, c3⟩ | ⟨c1, c2, c3⟩ <;>
    simp only [*, ↓reduceDIte] <;>
    first
    | (have hh : ¬ x.val / 64 = C.val / 256 := by omega
       simp only [hh, ↓reduceIte]
       done)
    | (have hh : x.val / 64 = C.val / 256 := by omega
       simp only [hh, ↓reduceIte])
  · exact seen_read p c ⟨64 * (0 : Fin 2).val + x.val % 64, by omega⟩ ⟨C.val % 256, by omega⟩ (C.val) (by dsimp only; omega) ⟨x.val, by omega⟩ ⟨x.val, by omega⟩
      (Fin.ext (by simp; omega)) (Fin.ext (by simp; omega))
  · exact seen_read p c ⟨64 * (0 : Fin 2).val + x.val % 64, by omega⟩ ⟨C.val % 256, by omega⟩ (C.val - 256) (by dsimp only; omega) ⟨x.val - 64, by omega⟩ ⟨x.val - 64, by omega⟩
      (Fin.ext (by simp; omega)) (Fin.ext (by simp; omega))
  · exact seen_read p c ⟨64 * (0 : Fin 2).val + x.val % 64, by omega⟩ ⟨C.val % 256, by omega⟩ (C.val - 256 - 256) (by dsimp only; omega) ⟨x.val - 64 - 64, by omega⟩ ⟨x.val - 64 - 64, by omega⟩
      (Fin.ext (by simp; omega)) (Fin.ext (by simp; omega))
  · exact seen_read p c ⟨64 * (0 : Fin 2).val + x.val % 64, by omega⟩ ⟨C.val % 256, by omega⟩ (C.val - 256 - 256 - 256) (by dsimp only; omega) ⟨x.val - 64 - 64 - 64, by omega⟩ ⟨x.val - 64 - 64 - 64, by omega⟩
      (Fin.ext (by simp; omega)) (Fin.ext (by simp; omega))

set_option maxHeartbeats 1000000 in
/-- The second group's scores. -/
theorem score1 (p c : Vec Ideal S128x128 .bf16) (q0 q1 : Vec Ideal S128x256 .bf16) (B : Vec Ideal S1x1x256x1024 .f32) (R : Fin 256) (C : Fin 1024) :
    k0_pay72 (k0_pay51 p c) k0_pay56 q0 q1 (ix2 R C) + k0_pay73 B (ix2 R C) = score p c q0 q1 B 1 R C := by
  pointwise [k0_pay72, k0_pay73, k0_pay51, k0_pay56]
  unfold score
  refine congrArg (· + _) (sum_block (query q0 q1 R) _ _ ⟨C.val / 256, by omega⟩ fun x => ?_)
  dsimp only
  have hx := x.isLt
  have hC := C.isLt
  have hx4 : x.val < 64 ∨ (¬ x.val < 64 ∧ x.val - 64 < 64) ∨ (¬ x.val < 64 ∧ ¬ x.val - 64 < 64 ∧ x.val - 64 - 64 < 64)
    ∨ (¬ x.val < 64 ∧ ¬ x.val - 64 < 64 ∧ ¬ x.val - 64 - 64 < 64) := by omega
  have hC4 : C.val < 256 ∨ (¬ C.val < 256 ∧ C.val - 256 < 256) ∨ (¬ C.val < 256 ∧ ¬ C.val - 256 < 256 ∧ C.val - 256 - 256 < 256)
    ∨ (¬ C.val < 256 ∧ ¬ C.val - 256 < 256 ∧ ¬ C.val - 256 - 256 < 256) := by omega
  rcases hx4 with x1 | ⟨x1, x2⟩ | ⟨x1, x2, x3⟩ | ⟨x1, x2, x3⟩ <;> rcases hC4 with c1 | ⟨c1, c2⟩ | ⟨c1, c2, c3⟩ | ⟨c1, c2, c3⟩ <;>
    simp only [*, ↓reduceDIte] <;>
    first
    | (have hh : ¬ x.val / 64 = C.val / 256 := by omega
       simp only [hh, ↓reduceIte]
       done)
    | (have hh : x.val / 64 = C.val / 256 := by omega
       simp only [hh, ↓reduceIte])
  · exact seen_read p c ⟨64 * (1 : Fin 2).val + x.val % 64, by omega⟩ ⟨C.val % 256, by omega⟩ (C.val) (by dsimp only; omega) ⟨64 + (x.val), by omega⟩ ⟨64 + (x.val), by omega⟩
      (Fin.ext (by simp; omega)) (Fin.ext (by simp; omega))
  · exact seen_read p c ⟨64 * (1 : Fin 2).val + x.val % 64, by omega⟩ ⟨C.val % 256, by omega⟩ (C.val - 256) (by dsimp only; omega) ⟨64 + (x.val - 64), by omega⟩ ⟨64 + (x.val - 64), by omega⟩
      (Fin.ext (by simp; omega)) (Fin.ext (by simp; omega))
  · exact seen_read p c ⟨64 * (1 : Fin 2).val + x.val % 64, by omega⟩ ⟨C.val % 256, by omega⟩ (C.val - 256 - 256) (by dsimp only; omega) ⟨64 + (x.val - 64 - 64), by omega⟩ ⟨64 + (x.val - 64 - 64), by omega⟩
      (Fin.ext (by simp; omega)) (Fin.ext (by simp; omega))
  · exact seen_read p c ⟨64 * (1 : Fin 2).val + x.val % 64, by omega⟩ ⟨C.val % 256, by omega⟩ (C.val - 256 - 256 - 256) (by dsimp only; omega) ⟨64 + (x.val - 64 - 64 - 64), by omega⟩ ⟨64 + (x.val - 64 - 64 - 64), by omega⟩
      (Fin.ext (by simp; omega)) (Fin.ext (by simp; omega))

/-- Minus infinity, as the reductions write it. -/
theorem neg_inf : Ideal.ofBits FTy.f32 4286578688#32 = ⊥ := by
  simp [Ideal.ofBits, Ideal.ieee]

/-- The lane's half, as the choice the kernel makes. -/
theorem pick_half (L : Fin 128) (x y z : EReal) (h1 : L.val < 64 → x = z) (h2 : ¬ L.val < 64 → y = z) :
    Scalar.select (IntOp.cmpi CmpIPredicate.slt (BitVec.ofNat 32 L.val) 64#32) x y = z := by
  rw [low_word]
  by_cases h : L.val < 64
  · rw [if_pos h, ← h1 h]; rfl
  · rw [if_neg h, ← h2 h]; rfl

theorem half_word (L : Fin 128) : IntOp.cmpi CmpIPredicate.slt (BitVec.ofNat 32 L.val) 64#32 = 1#1 ∨ IntOp.cmpi CmpIPredicate.slt (BitVec.ofNat 32 L.val) 64#32 = 0#1 := by
  rw [low_word]
  by_cases h : L.val < 64
  · exact Or.inl (if_pos h)
  · exact Or.inr (if_neg h)

/-- The head's scores among a row's stacked ones. -/
def headScore (p c : Vec Ideal S128x128 .bf16) (q0 q1 : Vec Ideal S128x256 .bf16) (B : Vec Ideal S1x1x256x1024 .f32) (g : Fin 2) (R : Fin 256) (i : Fin 4) (k : Fin 256) : EReal :=
  score p c q0 q1 B g R ⟨256 * i.val + k.val, by omega⟩

/-- A weight of the head's row: the exponential of a score less the row's largest. -/
def weight (S : Fin 256 → EReal) (k : Fin 256) : EReal := Ideal.exp (S k - Finset.univ.sup S)

/-- The kernel's cleared values, at a row and a lane. -/
def cleared (p c : Vec Ideal S128x128 .bf16) (l : Fin 128) (x : Fin 256) : EReal :=
  Scalar.select (IntOp.cmpi CmpIPredicate.eq (BitVec.ofNat 32 x.val) 0#32) 0 (if h : x.val < 128 then p (ix2 ⟨x.val, h⟩ l) else c (ix2 ⟨x.val - 128, by omega⟩ l))

theorem cleared_eq (p c : Vec Ideal S128x128 .bf16) (l l' : Fin 128) (h : l' = l) (x : Fin 256) : cleared p c l' x = seen p c l x :=
  seen_read p c l x x.val rfl l' l' h h

/-- Two heads side by side in one quotient: the lane's half picks the head. -/
theorem halves (p c : Vec Ideal S128x128 .bf16) (L la lb l : Fin 128) (hla : L.val < 64 → la = l) (hlb : ¬ L.val < 64 → lb = l)
    (Sa Sb S : Fin 256 → EReal) (hSa : L.val < 64 → Sa = S) (hSb : ¬ L.val < 64 → Sb = S) (ea eb : Fin 256 → EReal)
    (ha : ∀ k, ea k = weight Sa k) (hb : ∀ k, eb k = weight Sb k) :
    Ideal.div (∑ x : Fin 512, (if h : x.val < 256 then ea ⟨x.val, h⟩ else eb ⟨x.val - 256, by omega⟩)
        * (if h : x.val < 256 then Scalar.select (IntOp.cmpi CmpIPredicate.slt (BitVec.ofNat 32 L.val) 64#32) (cleared p c la ⟨x.val, h⟩) 0
            else Scalar.select (IntOp.cmpi CmpIPredicate.slt (BitVec.ofNat 32 L.val) 64#32) 0 (cleared p c lb ⟨x.val - 256, by omega⟩)))
      (∑ x, Scalar.select (IntOp.cmpi CmpIPredicate.slt (BitVec.ofNat 32 L.val) 64#32) (ea x) 0
        + ∑ x, Scalar.select (IntOp.cmpi CmpIPredicate.slt (BitVec.ofNat 32 L.val) 64#32) 0 (eb x))
      = soft S (seen p c l) := by
  refine (quot _ (half_word L) ea eb (cleared p c la) (cleared p c lb)).trans (pick_half L _ _ _ (fun h => ?_) (fun h => ?_))
  · obtain rfl := funext ha
    rw [← hSa h]
    refine congrArg₂ Ideal.div (Finset.sum_congr rfl fun k _ => congrArg (_ * ·) (cleared_eq p c l la (hla h) k)) rfl
  · obtain rfl := funext hb
    rw [← hSb h]
    refine congrArg₂ Ideal.div (Finset.sum_congr rfl fun k _ => congrArg (_ * ·) (cleared_eq p c l lb (hlb h) k)) rfl

/-- An exponential of the kernel is the head's weight, once its scores are known. -/
theorem exp_read (S s : Fin 256 → EReal) (h : ∀ k, s k = S k) (k : Fin 256) :
    Ideal.exp (s k - Finset.fold max (Ideal.ofBits FTy.f32 4286578688#32) s Finset.univ) = weight S k := by
  obtain rfl := funext h
  rw [neg_inf, fold_max]; rfl

section
variable (kp kc vp vc : Vec Ideal S128x128 .bf16) (q0 q1 : Vec Ideal S128x256 .bf16) (B : Vec Ideal S1x1x256x1024 .f32)

theorem exp0 (R k : Fin 256) : k0_pay59 (k0_pay51 kp kc) q0 q1 B (ix2 R k) = weight (headScore kp kc q0 q1 B 0 R 0) k := by
  pointwise [k0_pay59]
  exact exp_read _ (fun x => k0_pay58 (k0_pay51 kp kc) q0 q1 B (ix2 R ⟨x.val, by omega⟩)) (fun x => (score0 kp kc q0 q1 B R _).trans (congrArg _ (Fin.ext (by simp)))) k

theorem exp1 (R k : Fin 256) : k0_pay60 (k0_pay51 kp kc) q0 q1 B (ix2 R k) = weight (headScore kp kc q0 q1 B 0 R 1) k := by
  pointwise [k0_pay60]
  exact exp_read _ (fun x => k0_pay58 (k0_pay51 kp kc) q0 q1 B (ix2 R ⟨256 + x.val, by omega⟩)) (fun x => (score0 kp kc q0 q1 B R _).trans (congrArg _ (Fin.ext (by simp)))) k

theorem exp2 (R k : Fin 256) : k0_pay61 (k0_pay51 kp kc) q0 q1 B (ix2 R k) = weight (headScore kp kc q0 q1 B 0 R 2) k := by
  pointwise [k0_pay61]
  exact exp_read _ (fun x => k0_pay58 (k0_pay51 kp kc) q0 q1 B (ix2 R ⟨512 + x.val, by omega⟩)) (fun x => (score0 kp kc q0 q1 B R _).trans (congrArg _ (Fin.ext (by simp)))) k

theorem exp3 (R k : Fin 256) : k0_pay62 (k0_pay51 kp kc) q0 q1 B (ix2 R k) = weight (headScore kp kc q0 q1 B 0 R 3) k := by
  pointwise [k0_pay62]
  exact exp_read _ (fun x => k0_pay58 (k0_pay51 kp kc) q0 q1 B (ix2 R ⟨768 + x.val, by omega⟩)) (fun x => (score0 kp kc q0 q1 B R _).trans (congrArg _ (Fin.ext (by simp)))) k

set_option maxHeartbeats 1000000 in
/-- The first group's weighted values, before the gate. -/
theorem att0 (R : Fin 512) (L : Fin 128) :
    k0_pay65 k0_pay54 k0_pay55 (k0_pay59 (k0_pay51 kp kc) q0 q1 B) (k0_pay60 (k0_pay51 kp kc) q0 q1 B) (k0_pay61 (k0_pay51 kp kc) q0 q1 B) (k0_pay62 (k0_pay51 kp kc) q0 q1 B)
      (k0_pay63 (k0_pay50 vp vc) k0_pay53) (k0_pay64 (k0_pay52 vp vc) k0_pay53) (ix2 R L)
      = soft (headScore kp kc q0 q1 B 0 ⟨R.val % 256, by omega⟩ ⟨2 * (R.val / 256) + L.val / 64, by omega⟩) (seen vp vc ⟨L.val % 64, by omega⟩) := by
  pointwise [k0_pay65, k0_pay54, k0_pay55, k0_pay63, k0_pay50, k0_pay53, k0_pay64, k0_pay52, k0_pay57]
  by_cases hR : R.val < 256
  · simp only [dif_pos hR]
    refine halves vp vc L L ⟨(L.val + 128 - 64) % 128, by omega⟩ _ ?_ ?_ (headScore kp kc q0 q1 B 0 ⟨R.val, hR⟩ 0) (headScore kp kc q0 q1 B 0 ⟨R.val, hR⟩ 1) _ ?_ ?_
      (fun x => k0_pay59 (k0_pay51 kp kc) q0 q1 B (ix2 ⟨R.val, hR⟩ x)) (fun x => k0_pay60 (k0_pay51 kp kc) q0 q1 B (ix2 ⟨R.val, hR⟩ x))
      (exp0 kp kc q0 q1 B _) (exp1 kp kc q0 q1 B _)
    · exact fun h => Fin.ext (by simp; omega)
    · exact fun h => Fin.ext (by simp; omega)
    · exact fun h => congrArg₂ (headScore kp kc q0 q1 B 0) (Fin.ext (by simp; omega)) (Fin.ext (by simp; omega))
    · exact fun h => congrArg₂ (headScore kp kc q0 q1 B 0) (Fin.ext (by simp; omega)) (Fin.ext (by simp; omega))
  · have hr : R.val - 256 < 256 := by omega
    simp only [dif_neg hR]
    refine halves vp vc L L ⟨(L.val + 128 - 64) % 128, by omega⟩ _ ?_ ?_ (headScore kp kc q0 q1 B 0 ⟨R.val - 256, hr⟩ 2) (headScore kp kc q0 q1 B 0 ⟨R.val - 256, hr⟩ 3) _ ?_ ?_
      (fun x => k0_pay61 (k0_pay51 kp kc) q0 q1 B (ix2 ⟨R.val - 256, hr⟩ x)) (fun x => k0_pay62 (k0_pay51 kp kc) q0 q1 B (ix2 ⟨R.val - 256, hr⟩ x))
      (exp2 kp kc q0 q1 B ⟨R.val - 256, hr⟩) (exp3 kp kc q0 q1 B ⟨R.val - 256, hr⟩)
    · exact fun h => Fin.ext (by simp; omega)
    · exact fun h => Fin.ext (by simp; omega)
    · exact fun h => congrArg₂ (headScore kp kc q0 q1 B 0) (Fin.ext (by simp; omega)) (Fin.ext (by simp; omega))
    · exact fun h => congrArg₂ (headScore kp kc q0 q1 B 0) (Fin.ext (by simp; omega)) (Fin.ext (by simp; omega))

set_option maxHeartbeats 1000000 in
/-- The second group's weighted values, before the gate. -/
theorem att1 (R : Fin 512) (L : Fin 128) :
    k0_pay74 (k0_pay50 vp vc) (k0_pay52 vp vc) k0_pay53 k0_pay54 k0_pay55 k0_pay57 (k0_pay72 (k0_pay51 kp kc) k0_pay56 q0 q1) (k0_pay73 B) (ix2 R L)
      = soft (headScore kp kc q0 q1 B 1 ⟨R.val % 256, by omega⟩ ⟨2 * (R.val / 256) + L.val / 64, by omega⟩) (seen vp vc ⟨64 + L.val % 64, by omega⟩) := by
  have hs : ∀ (r : Fin 256) (C : Fin 1024), k0_pay72 (k0_pay51 kp kc) k0_pay56 q0 q1 (ix2 r C) + k0_pay73 B (ix2 r C) = score kp kc q0 q1 B 1 r C := score1 kp kc q0 q1 B
  generalize k0_pay72 (k0_pay51 kp kc) k0_pay56 q0 q1 = s at hs ⊢
  generalize k0_pay73 B = b at hs ⊢
  pointwise [k0_pay74, k0_pay54, k0_pay55, k0_pay63, k0_pay50, k0_pay53, k0_pay64, k0_pay52, k0_pay57]
  by_cases hR : R.val < 256
  · simp only [dif_pos hR]
    refine halves vp vc L ⟨(L.val + 128 - 64) % 128, by omega⟩ L _ ?_ ?_ (headScore kp kc q0 q1 B 1 ⟨R.val, hR⟩ 0) (headScore kp kc q0 q1 B 1 ⟨R.val, hR⟩ 1) _ ?_ ?_
      _ _
      (exp_read _ (fun x => s (ix2 ⟨R.val, hR⟩ ⟨x.val, by omega⟩) + b (ix2 ⟨R.val, hR⟩ ⟨x.val, by omega⟩)) fun x => (hs _ _).trans (congrArg _ (Fin.ext (by simp))))
      (exp_read _ (fun x => s (ix2 ⟨R.val, hR⟩ ⟨256 + x.val, by omega⟩) + b (ix2 ⟨R.val, hR⟩ ⟨256 + x.val, by omega⟩)) fun x => (hs _ _).trans (congrArg _ (Fin.ext (by simp))))
    · exact fun h => Fin.ext (by simp; omega)
    · exact fun h => Fin.ext (by simp; omega)
    · exact fun h => congrArg₂ (headScore kp kc q0 q1 B 1) (Fin.ext (by simp; omega)) (Fin.ext (by simp; omega))
    · exact fun h => congrArg₂ (headScore kp kc q0 q1 B 1) (Fin.ext (by simp; omega)) (Fin.ext (by simp; omega))
  · have hr : R.val - 256 < 256 := by omega
    simp only [dif_neg hR]
    refine halves vp vc L ⟨(L.val + 128 - 64) % 128, by omega⟩ L _ ?_ ?_ (headScore kp kc q0 q1 B 1 ⟨R.val - 256, hr⟩ 2) (headScore kp kc q0 q1 B 1 ⟨R.val - 256, hr⟩ 3) _ ?_ ?_
      _ _
      (exp_read _ (fun x => s (ix2 ⟨R.val - 256, hr⟩ ⟨512 + x.val, by omega⟩) + b (ix2 ⟨R.val - 256, hr⟩ ⟨512 + x.val, by omega⟩)) fun x => (hs _ _).trans (congrArg _ (Fin.ext (by simp))))
      (exp_read _ (fun x => s (ix2 ⟨R.val - 256, hr⟩ ⟨768 + x.val, by omega⟩) + b (ix2 ⟨R.val - 256, hr⟩ ⟨768 + x.val, by omega⟩)) fun x => (hs _ _).trans (congrArg _ (Fin.ext (by simp))))
    · exact fun h => Fin.ext (by simp; omega)
    · exact fun h => Fin.ext (by simp; omega)
    · exact fun h => congrArg₂ (headScore kp kc q0 q1 B 1) (Fin.ext (by simp; omega)) (Fin.ext (by simp; omega))
    · exact fun h => congrArg₂ (headScore kp kc q0 q1 B 1) (Fin.ext (by simp; omega)) (Fin.ext (by simp; omega))
end

end Cert.KSwaIdeal.Value
end
-- ==== Proof.SwaBlocks.lean ====
/- The blocks the sliding-window attention reads, and the biases it keeps over the grid. -/
module

public import proofs.«01_k».proof.Defs
public import proofs.«01_k».proof.Proof.Gen.KSwaIdeal.Value
public import proofs.«01_k».proof.Proof.SwaBias
public import proofs.«01_k».proof.Proof.SwaRow
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KSwaIdeal.Value
open Cert.KSwaIdeal Cert.KSwaIdeal.Gen

variable (m : (ℓ : Loc nD τ sig) → Buf (Elt Ideal) ℓ)

/-- The blocks the grid's points read and write. -/
theorem idx : ∀ t : Fin cfg0.N, win0_0.index t = ![0] ∧ win0_1.index t = ![t.val, 0] ∧ win0_2.index t = ![if t.val % 16 = 0 then t.val else t.val - 1, 56]
    ∧ win0_3.index t = ![t.val, 56] ∧ win0_4.index t = ![if t.val % 16 = 0 then t.val else t.val - 1, 57] ∧ win0_5.index t = ![t.val, 57]
    ∧ win0_6.index t = ![t.val, 1] ∧ win0_7.index t = ![t.val, 0] ∧ (grid0.coords t 1).val = t.val % 16 ∧ t.val < 128 :=
  (by decide +kernel : ∀ t : Fin grid0.N, _)

/-- The row the block before a query's own one starts from: its own at the head of a sequence. -/
def before (t : ℕ) : ℕ := if t % 16 = 0 then t else t - 1

theorem before_le (t : ℕ) : before t ≤ t := by
  unfold before; split <;> omega

theorem blk0 (c : Dev nD) (t : Fin cfg0.N) (k : Fin 16) : iblk m c 0 t (ix1 k) = m ((c : Thread nD τ).loc main_arg1) (ix2 0 k) := by
  have hi := (idx t).1
  have e : ((cfg0.win 0).blk t).view.emb (ix1 k) = ix1 k := by
    blk_ext [hi]
  show V m c main_v0 (((cfg0.win 0).blk t).view.emb (ix1 k)) = _
  rw [e]
  entry_read
  pointwise

theorem blk2 (c : Dev nD) (t : Fin cfg0.N) (r k : Fin 128) (ht : t.val < 128) :
    iblk m c 2 t (ix2 r k) = m ((c : Thread nD τ).loc main_arg0) (ix2 ⟨before t.val * 128 + r.val, by have := before_le t.val; omega⟩ ⟨7168 + k.val, by omega⟩) := by
  have hi := (idx t).2.2.1
  have e : ((cfg0.win 2).blk t).view.emb (ix2 r k) = ix2 (⟨before t.val * 128 + r.val, by have := before_le t.val; omega⟩ : Fin 16384) (⟨7168 + k.val, by omega⟩ : Fin 7552) := by
    unfold before; blk_ext [hi]
  show V m c main_arg0 (((cfg0.win 2).blk t).view.emb (ix2 r k)) = _
  rw [e]
  rfl

theorem blk3 (c : Dev nD) (t : Fin cfg0.N) (r k : Fin 128) (ht : t.val < 128) :
    iblk m c 3 t (ix2 r k) = m ((c : Thread nD τ).loc main_arg0) (ix2 ⟨t.val * 128 + r.val, by omega⟩ ⟨7168 + k.val, by omega⟩) := by
  have hi := (idx t).2.2.2.1
  have e : ((cfg0.win 3).blk t).view.emb (ix2 r k) = ix2 (⟨t.val * 128 + r.val, by omega⟩ : Fin 16384) (⟨7168 + k.val, by omega⟩ : Fin 7552) := by
    blk_ext [hi]
  show V m c main_arg0 (((cfg0.win 3).blk t).view.emb (ix2 r k)) = _
  rw [e]
  rfl

theorem blk4 (c : Dev nD) (t : Fin cfg0.N) (r k : Fin 128) (ht : t.val < 128) :
    iblk m c 4 t (ix2 r k) = m ((c : Thread nD τ).loc main_arg0) (ix2 ⟨before t.val * 128 + r.val, by have := before_le t.val; omega⟩ ⟨7296 + k.val, by omega⟩) := by
  have hi := (idx t).2.2.2.2.1
  have e : ((cfg0.win 4).blk t).view.emb (ix2 r k) = ix2 (⟨before t.val * 128 + r.val, by have := before_le t.val; omega⟩ : Fin 16384) (⟨7296 + k.val, by omega⟩ : Fin 7552) := by
    unfold before; blk_ext [hi]
  show V m c main_arg0 (((cfg0.win 4).blk t).view.emb (ix2 r k)) = _
  rw [e]
  rfl

theorem blk5 (c : Dev nD) (t : Fin cfg0.N) (r k : Fin 128) (ht : t.val < 128) :
    iblk m c 5 t (ix2 r k) = m ((c : Thread nD τ).loc main_arg0) (ix2 ⟨t.val * 128 + r.val, by omega⟩ ⟨7296 + k.val, by omega⟩) := by
  have hi := (idx t).2.2.2.2.2.1
  have e : ((cfg0.win 5).blk t).view.emb (ix2 r k) = ix2 (⟨t.val * 128 + r.val, by omega⟩ : Fin 16384) (⟨7296 + k.val, by omega⟩ : Fin 7552) := by
    blk_ext [hi]
  show V m c main_arg0 (((cfg0.win 5).blk t).view.emb (ix2 r k)) = _
  rw [e]
  rfl

theorem blk1 (c : Dev nD) (t : Fin cfg0.N) (r : Fin 128) (k : Fin 1024) (ht : t.val < 128) :
    X0_1 m c t (ix2 r k) = m ((c : Thread nD τ).loc main_arg0) (ix2 ⟨t.val * 128 + r.val, by omega⟩ ⟨0 + k.val, by omega⟩) := by
  have hi := (idx t).2.1
  have e : ((cfg0.win 1).blk t).view.emb (fun a => ⟨(ix2 r k a).val, (Pipeline.Window.moved_iff _ _ _).1 (moved0_1 t (ix2 r k)) a⟩) = ix2 (⟨t.val * 128 + r.val, by omega⟩ : Fin 16384) (⟨0 + k.val, by omega⟩ : Fin 7552) := by
    blk_ext [hi]
  unfold X0_1 Pipeline.Window.fill
  rw [dif_pos (moved0_1 t (ix2 r k))]
  show V m c main_arg0 (((cfg0.win 1).blk t).view.emb fun a => ⟨(ix2 r k a).val, (Pipeline.Window.moved_iff _ _ _).1 (moved0_1 t (ix2 r k)) a⟩) = _
  rw [e]
  rfl

theorem blk6 (c : Dev nD) (t : Fin cfg0.N) (r : Fin 128) (k : Fin 1024) (ht : t.val < 128) :
    X0_6 m c t (ix2 r k) = m ((c : Thread nD τ).loc main_arg0) (ix2 ⟨t.val * 128 + r.val, by omega⟩ ⟨1024 + k.val, by omega⟩) := by
  have hi := (idx t).2.2.2.2.2.2.1
  have e : ((cfg0.win 6).blk t).view.emb (fun a => ⟨(ix2 r k a).val, (Pipeline.Window.moved_iff _ _ _).1 (moved0_6 t (ix2 r k)) a⟩) = ix2 (⟨t.val * 128 + r.val, by omega⟩ : Fin 16384) (⟨1024 + k.val, by omega⟩ : Fin 7552) := by
    blk_ext [hi]
  unfold X0_6 Pipeline.Window.fill
  rw [dif_pos (moved0_6 t (ix2 r k))]
  show V m c main_arg0 (((cfg0.win 6).blk t).view.emb fun a => ⟨(ix2 r k a).val, (Pipeline.Window.moved_iff _ _ _).1 (moved0_6 t (ix2 r k)) a⟩) = _
  rw [e]
  rfl

/-- The biases stay in the scratch over the whole grid. -/
theorem scratch (c : Dev nD) : ∀ (n : ℕ) (hn : n < cfg0.N) (f g : Fin 2) (R : Fin 256) (C : Fin 1024),
    (outsAt0 m c n hn).2 (ix4 f g R C) = biasAt (fun k => m ((c : Thread nD τ).loc main_arg1) (ix2 0 k)) f g R C
  | 0, hn, f, g, R, C => by
    rw [scratchA m c ⟨0, hn⟩ rfl f g R C]
    exact congrArg (biasAt · f g R C) (funext fun k => blk0 m c _ k)
  | n + 1, hn, f, g, R, C => by
    have hB : ¬ (⟨n + 1, hn⟩ : Fin cfg0.N).val % 128 = 0 := by
      have := (idx ⟨n + 1, hn⟩).2.2.2.2.2.2.2.2.2
      dsimp only at this ⊢; omega
    rw [outsAt0_B m c ⟨n + 1, hn⟩ hB]
    unfold sout0_B_0
    exact scratch c n (Nat.lt_of_succ_lt hn) f g R C

end Cert.KSwaIdeal.Value
end
-- ==== Proof.SwaValue.lean ====
/- What the sliding-window attention writes: every piece of a block, and the array. -/
module

public import proofs.«01_k».proof.Defs
public import proofs.«01_k».proof.Proof.Gen.KSwaIdeal.Value
public import proofs.«01_k».proof.Proof.SwaBlocks
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KSwaIdeal.Value
open Cert.SwaMath Cert.KSwaIdeal Cert.KSwaIdeal.Gen

variable (m : (ℓ : Loc nD τ sig) → Buf (Elt Ideal) ℓ)

/-- A lane of the keys (or values) the query block `t` sees: the rows of the block before, then its own, the first cleared. -/
def kv (P : Fin 16384 → Fin 7552 → EReal) (o : ℕ) (ho : o + 128 ≤ 7552) (t : Fin 128) (l : Fin 128) (k : Fin 256) : EReal :=
  if k.val = 0 then 0
  else if h : k.val < 128 then P ⟨before t.val * 128 + k.val, by have := before_le t.val; omega⟩ ⟨o + l.val, by omega⟩
  else P ⟨t.val * 128 + (k.val - 128), by omega⟩ ⟨o + l.val, by omega⟩

/-- The scores of the head `H` for the query `r` of the block `t`, the sink at the first key's place. -/
def headRow (P : Fin 16384 → Fin 7552 → EReal) (sink : Fin 16 → EReal) (t r : Fin 128) (H : Fin 16) (k : Fin 256) : EReal :=
  ∑ d : Fin 64, P ⟨t.val * 128 + r.val, by omega⟩ ⟨64 * H.val + d.val, by omega⟩ * kv P 7168 (by omega) t ⟨64 * (H.val / 8) + d.val, by omega⟩ k
    + biasAt sink ⟨if t.val % 16 = 0 then 1 else 0, by split <;> omega⟩ ⟨H.val / 8, by omega⟩ ⟨128 * (H.val % 8 / 4) + r.val, by omega⟩ ⟨256 * (H.val % 4) + k.val, by omega⟩

/-- A gate's factor. -/
def gate (x : EReal) : EReal := x * (Ideal.ofBits FTy.f32 1056964608#32 * Ideal.tanh (Ideal.ofBits FTy.f32 1056964608#32 * x) + Ideal.ofBits FTy.f32 1056964608#32)

/-- An entry of the attention's output. -/
def swaAt (P : Fin 16384 → Fin 7552 → EReal) (sink : Fin 16 → EReal) (t r : Fin 128) (j : Fin 1024) : EReal :=
  soft (headRow P sink t r ⟨j.val / 64, by omega⟩) (kv P 7296 (by omega) t ⟨64 * (j.val / 64 / 8) + j.val % 64, by omega⟩)
    * gate (P ⟨t.val * 128 + r.val, by omega⟩ ⟨1024 + j.val, by omega⟩)

/-- The projections, as the kernel is given them. -/
def projs (c : Dev nD) (i : Fin 16384) (j : Fin 7552) : EReal := m ((c : Thread nD τ).loc main_arg0) (ix2 i j)

/-- The sinks, as the kernel is given them. -/
def sinks (c : Dev nD) (k : Fin 16) : EReal := m ((c : Thread nD τ).loc main_arg1) (ix2 0 k)

theorem seen_kv (c : Dev nD) (t : Fin cfg0.N) (t' : Fin 128) (e : t'.val = t.val) (l : Fin 128) (k : Fin 256) :
    seen (iblk m c 2 t) (iblk m c 3 t) l k = kv (projs m c) 7168 (by omega) t' l k
    ∧ seen (iblk m c 4 t) (iblk m c 5 t) l k = kv (projs m c) 7296 (by omega) t' l k := by
  obtain ⟨t0, ht⟩ := t
  obtain rfl : t0 = t'.val := e.symm
  have ht : t'.val < 128 := t'.isLt
  unfold seen kv
  by_cases h0 : k.val = 0
  · simp only [h0, ↓reduceIte, and_self]
  · simp only [h0, ↓reduceIte]
    by_cases h : k.val < 128
    · rw [dif_pos h, dif_pos h, dif_pos h, dif_pos h]
      exact ⟨blk2 m c _ _ _ ht, blk4 m c _ _ _ ht⟩
    · rw [dif_neg h, dif_neg h, dif_neg h, dif_neg h]
      exact ⟨blk3 m c _ _ _ ht, blk5 m c _ _ _ ht⟩

/-- The kernel's scores of a head, from the arrays. -/
theorem head_eq (c : Dev nD) (t : Fin cfg0.N) (t' r : Fin 128) (e : t'.val = t.val) (q0 q1 : Vec Ideal S128x256 .bf16) (B : Vec Ideal S1x1x256x1024 .f32) (g : Fin 2)
    (hq0 : ∀ (a : Fin 128) (x : Fin 256), q0 (ix2 a x) = X0_1 m c t (ix2 a ⟨512 * g.val + x.val, by omega⟩))
    (hq1 : ∀ (a : Fin 128) (x : Fin 256), q1 (ix2 a x) = X0_1 m c t (ix2 a ⟨512 * g.val + 256 + x.val, by omega⟩))
    (hB : ∀ (R : Fin 256) (C : Fin 1024), B (ix4 0 0 R C) = biasAt (sinks m c) ⟨if t.val % 16 = 0 then 1 else 0, by split <;> omega⟩ g R C)
    (R : Fin 256) (i : Fin 4) (H : Fin 16) (hr : r.val = R.val % 128) (hH : H.val = 8 * g.val + 4 * (R.val / 128) + i.val) :
    headScore (iblk m c 2 t) (iblk m c 3 t) q0 q1 B g R i = headRow (projs m c) (sinks m c) t' r H := by
  have ht : t.val < 128 := e ▸ t'.isLt
  funext k
  unfold headScore score headRow
  refine congrArg₂ (· + ·) (Finset.sum_congr rfl fun d _ => congrArg₂ (· * ·) ?_ ?_) ?_
  · unfold query
    by_cases h : R.val < 128
    · rw [dif_pos h, hq0, blk1 m c t _ _ ht]
      unfold projs
      exact congrArg (m ((c : Thread nD τ).loc main_arg0)) (congrArg₂ ix2 (Fin.ext (by simp; omega)) (Fin.ext (by simp; omega)))
    · rw [dif_neg h, hq1, blk1 m c t _ _ ht]
      unfold projs
      exact congrArg (m ((c : Thread nD τ).loc main_arg0)) (congrArg₂ ix2 (Fin.ext (by simp; omega)) (Fin.ext (by simp; omega)))
  · rw [(seen_kv m c t t' e _ _).1]
    exact congrArg₂ (kv (projs m c) 7168 (by omega) t') (Fin.ext (by simp <;> omega)) (Fin.ext (by simp <;> omega))
  · rw [hB]
    have e1 : (⟨if t.val % 16 = 0 then 1 else 0, by split <;> omega⟩ : Fin 2) = ⟨if t'.val % 16 = 0 then 1 else 0, by split <;> omega⟩ := Fin.ext (by simp only [e])
    have e2 : g = ⟨H.val / 8, by omega⟩ := Fin.ext (by simp; omega)
    have e3 : R = ⟨128 * (H.val % 8 / 4) + r.val, by omega⟩ := Fin.ext (by simp; omega)
    have e4 : (⟨256 * i.val + k.val, by omega⟩ : Fin 1024) = ⟨256 * (H.val % 4) + k.val, by omega⟩ := Fin.ext (by simp; omega)
    rw [e1, e4]
    exact congrArg₂ (fun x y => biasAt (sinks m c) _ x y _) e2 e3

section
variable (c : Dev nD) (t : Fin cfg0.N) (t' r : Fin 128) (e : t'.val = t.val) (q0 q1 : Vec Ideal S128x256 .bf16) (B : Vec Ideal S1x1x256x1024 .f32)
  (j : Fin 1024) (R : Fin 512) (L : Fin 128) (hr : r.val = R.val % 128)
include e hr

/-- The first group's heads, before the gate. -/
theorem group0
    (hq0 : ∀ (a : Fin 128) (x : Fin 256), q0 (ix2 a x) = X0_1 m c t (ix2 a ⟨x.val, by omega⟩))
    (hq1 : ∀ (a : Fin 128) (x : Fin 256), q1 (ix2 a x) = X0_1 m c t (ix2 a ⟨256 + x.val, by omega⟩))
    (hB : ∀ (R : Fin 256) (C : Fin 1024), B (ix4 0 0 R C) = biasAt (sinks m c) ⟨if t.val % 16 = 0 then 1 else 0, by split <;> omega⟩ 0 R C)
    (hj : j.val = 256 * (R.val % 256 / 128) + 128 * (R.val / 256) + L.val) :
    k0_pay65 k0_pay54 k0_pay55 (k0_pay59 (k0_pay51 (iblk m c 2 t) (iblk m c 3 t)) q0 q1 B) (k0_pay60 (k0_pay51 (iblk m c 2 t) (iblk m c 3 t)) q0 q1 B)
      (k0_pay61 (k0_pay51 (iblk m c 2 t) (iblk m c 3 t)) q0 q1 B) (k0_pay62 (k0_pay51 (iblk m c 2 t) (iblk m c 3 t)) q0 q1 B)
      (k0_pay63 (k0_pay50 (iblk m c 4 t) (iblk m c 5 t)) k0_pay53) (k0_pay64 (k0_pay52 (iblk m c 4 t) (iblk m c 5 t)) k0_pay53) (ix2 R L)
      = soft (headRow (projs m c) (sinks m c) t' r ⟨j.val / 64, by omega⟩) (kv (projs m c) 7296 (by omega) t' ⟨64 * (j.val / 64 / 8) + j.val % 64, by omega⟩) := by
  refine (att0 _ _ _ _ q0 q1 B R L).trans (congrArg₂ soft (head_eq m c t t' r e q0 q1 B 0 ?_ ?_ hB _ _ _ ?_ ?_) (funext fun k => (seen_kv m c t t' e _ k).2.trans (congrArg (kv _ _ _ _ · k) (Fin.ext ?_))))
  · exact fun a x => (hq0 a x).trans (congrArg (fun z => X0_1 m c t (ix2 a z)) (Fin.ext (by simp)))
  · exact fun a x => (hq1 a x).trans (congrArg (fun z => X0_1 m c t (ix2 a z)) (Fin.ext (by simp)))
  · dsimp only; omega
  · simp only [Fin.val_zero]; omega
  · dsimp only; omega

/-- The second group's heads, before the gate. -/
theorem group1
    (hq0 : ∀ (a : Fin 128) (x : Fin 256), q0 (ix2 a x) = X0_1 m c t (ix2 a ⟨512 + x.val, by omega⟩))
    (hq1 : ∀ (a : Fin 128) (x : Fin 256), q1 (ix2 a x) = X0_1 m c t (ix2 a ⟨768 + x.val, by omega⟩))
    (hB : ∀ (R : Fin 256) (C : Fin 1024), B (ix4 0 0 R C) = biasAt (sinks m c) ⟨if t.val % 16 = 0 then 1 else 0, by split <;> omega⟩ 1 R C)
    (hj : j.val = 512 + 256 * (R.val % 256 / 128) + 128 * (R.val / 256) + L.val) :
    k0_pay74 (k0_pay50 (iblk m c 4 t) (iblk m c 5 t)) (k0_pay52 (iblk m c 4 t) (iblk m c 5 t)) k0_pay53 k0_pay54 k0_pay55 k0_pay57
      (k0_pay72 (k0_pay51 (iblk m c 2 t) (iblk m c 3 t)) k0_pay56 q0 q1) (k0_pay73 B) (ix2 R L)
      = soft (headRow (projs m c) (sinks m c) t' r ⟨j.val / 64, by omega⟩) (kv (projs m c) 7296 (by omega) t' ⟨64 * (j.val / 64 / 8) + j.val % 64, by omega⟩) := by
  refine (att1 _ _ _ _ q0 q1 B R L).trans (congrArg₂ soft (head_eq m c t t' r e q0 q1 B 1 ?_ ?_ hB _ _ _ ?_ ?_) (funext fun k => (seen_kv m c t t' e _ k).2.trans (congrArg (kv _ _ _ _ · k) (Fin.ext ?_))))
  · exact fun a x => (hq0 a x).trans (congrArg (fun z => X0_1 m c t (ix2 a z)) (Fin.ext (by simp)))
  · exact fun a x => (hq1 a x).trans (congrArg (fun z => X0_1 m c t (ix2 a z)) (Fin.ext (by simp)))
  · dsimp only; omega
  · simp only [Fin.val_one]; omega
  · dsimp only; omega
end

section
variable (X : Vec Ideal S2x2x256x1024 .f32) (s : Fin 16 → EReal) (hX : ∀ (f g : Fin 2) (R : Fin 256) (C : Fin 1024), X (ix4 f g R C) = biasAt s f g R C) (t : Fin cfg0.N)
  (R : Fin 256) (C : Fin 1024)
include hX

/-- The first group's biases, where the point reads them. -/
theorem carried1 (p0 : k0_off1 (grid0.coords t) 0 < 2) (p1 : k0_off1 (grid0.coords t) 1 < 2) (p2 : k0_off1 (grid0.coords t) 2 + R.val < 256) (p3 : k0_off1 (grid0.coords t) 3 + C.val < 1024) :
    X (ix4 ⟨k0_off1 (grid0.coords t) 0, p0⟩ ⟨k0_off1 (grid0.coords t) 1, p1⟩ ⟨k0_off1 (grid0.coords t) 2 + R.val, p2⟩ ⟨k0_off1 (grid0.coords t) 3 + C.val, p3⟩)
      = biasAt s ⟨if t.val % 16 = 0 then 1 else 0, by split <;> omega⟩ 0 R C := by
  have hi := (idx t).2.2.2.2.2.2.2.2.1
  have ho := k0_off1_eq (grid0.coords t)
  have e0 : k0_off1 (grid0.coords t) 0 = if t.val % 16 = 0 then 1 else 0 := by rw [ho, hi]; rfl
  have e1 : k0_off1 (grid0.coords t) 1 = 0 := by rw [ho]; rfl
  have e2 : k0_off1 (grid0.coords t) 2 = 0 := by rw [ho]; rfl
  have e3 : k0_off1 (grid0.coords t) 3 = 0 := by rw [ho]; rfl
  rw [hX]
  simp only [e0, e1, e2, e3, Nat.zero_add, Fin.zero_eta, Fin.eta]

/-- The second group's biases, where the point reads them. -/
theorem carried2 (p0 : k0_off2 (grid0.coords t) 0 < 2) (p1 : k0_off2 (grid0.coords t) 1 < 2) (p2 : k0_off2 (grid0.coords t) 2 + R.val < 256) (p3 : k0_off2 (grid0.coords t) 3 + C.val < 1024) :
    X (ix4 ⟨k0_off2 (grid0.coords t) 0, p0⟩ ⟨k0_off2 (grid0.coords t) 1, p1⟩ ⟨k0_off2 (grid0.coords t) 2 + R.val, p2⟩ ⟨k0_off2 (grid0.coords t) 3 + C.val, p3⟩)
      = biasAt s ⟨if t.val % 16 = 0 then 1 else 0, by split <;> omega⟩ 1 R C := by
  have hi := (idx t).2.2.2.2.2.2.2.2.1
  have ho := k0_off2_eq (grid0.coords t)
  have e0 : k0_off2 (grid0.coords t) 0 = if t.val % 16 = 0 then 1 else 0 := by rw [ho, hi]; rfl
  have e1 : k0_off2 (grid0.coords t) 1 = 1 := by rw [ho]; rfl
  have e2 : k0_off2 (grid0.coords t) 2 = 0 := by rw [ho]; rfl
  have e3 : k0_off2 (grid0.coords t) 3 = 0 := by rw [ho]; rfl
  rw [hX]
  simp only [e0, e1, e2, e3, Nat.zero_add, Fin.mk_one, Fin.eta]
end

/-- The gate's factor, from its block. -/
theorem gate_eq (c : Dev nD) (t : Fin cfg0.N) (t' r a : Fin 128) (e : t'.val = t.val) (ht : t.val < 128) (h0 : r.val = a.val) (j : Fin 1024) (n : ℕ) (hn : n < 1024) (h1 : j.val = n) :
    gate (X0_6 m c t (ix2 a ⟨n, hn⟩))
      = gate (projs m c ⟨t'.val * 128 + r.val, by omega⟩ ⟨1024 + j.val, by omega⟩) := by
  rw [blk6 m c t _ _ ht]
  refine congrArg gate (congrArg (m ((c : Thread nD τ).loc main_arg0)) (congrArg₂ ix2 (Fin.ext ?_) (Fin.ext ?_)))
  · dsimp only; omega
  · dsimp only; omega

set_option maxHeartbeats 1000000 in
/-- The block of any later point. -/
theorem point_later (c : Dev nD) (t : Fin cfg0.N) (t' : Fin 128) (e : t'.val = t.val) (h0 : ¬ t.val % 128 = 0) (r : Fin 128) (j : Fin 1024) :
    (outsAt0 m c t.val t.isLt).1 (ix2 r j) = swaAt (projs m c) (sinks m c) t' r j := by
  have ht : t.val < 128 := e ▸ t'.isLt
  rw [outsAt0_B m c t h0]
  frame_out
  clear h0
  canon_tiles x h
  case piece4 | piece5 | piece6 | piece7 =>
    obtain ⟨a, l, rfl⟩ : ∃ (a l : Fin 128), x = ix2 a l := ⟨x 0, x 1, eq_ix2 x⟩
    have ha : a.val < 128 := a.isLt
    have hl : l.val < 128 := l.isLt
    simp only [ix2_0, ix2_1] at h0 h1
    clear x0_lt x1_lt
    pointwise [k0_pay66, k0_pay67, k0_pay68, k0_pay69, k0_pay70, k0_pay71]
    refine congrArg₂ (· * ·) (group0 m c t t' r e _ _ _ j _ _ ?_ ?_ ?_ ?_ ?_) (gate_eq m c t t' r a e ht h0 j _ _ ?_)
    · dsimp only; omega
    · intro a x; pointwise
    · intro a x; pointwise
    · intro R C
      pointwise
      refine carried1 _ _ (fun f g R C => ?_) t R C _ _ _ _
      rw [(Memref.isWhole_whole cc0_scratch0).read_unread]
      exact scratch m c _ _ f g R C
    · dsimp only; omega
    · omega
  case piece0 | piece1 | piece2 | piece3 =>
    obtain ⟨a, l, rfl⟩ : ∃ (a l : Fin 128), x = ix2 a l := ⟨x 0, x 1, eq_ix2 x⟩
    have ha : a.val < 128 := a.isLt
    have hl : l.val < 128 := l.isLt
    simp only [ix2_0, ix2_1] at h0 h1
    clear x0_lt x1_lt
    pointwise [k0_pay1, k0_pay75, k0_pay76, k0_pay77, k0_pay78, k0_pay79, k0_pay80, k0_pay81, k0_pay82, k0_pay83, k0_pay84]
    refine congrArg₂ (· * ·) (group1 m c t t' r e _ _ _ j _ _ ?_ ?_ ?_ ?_ ?_) (gate_eq m c t t' r a e ht h0 j _ _ ?_)
    · dsimp only; omega
    · intro a x; pointwise
    · intro a x; pointwise
    · intro R C
      pointwise
      refine carried2 _ _ (fun f g R C => ?_) t R C _ _ _ _
      rw [(Memref.isWhole_whole cc0_scratch0).read_unread]
      exact scratch m c _ _ f g R C
    · dsimp only; omega
    · omega

set_option maxHeartbeats 1000000 in
/-- The block of the grid's first point, which fills the scratch as it goes. -/
theorem point_first (c : Dev nD) (t : Fin cfg0.N) (t' : Fin 128) (e : t'.val = t.val) (h0 : t.val % 128 = 0) (r : Fin 128) (j : Fin 1024) :
    (outsAt0 m c t.val t.isLt).1 (ix2 r j) = swaAt (projs m c) (sinks m c) t' r j := by
  have ht : t.val < 128 := e ▸ t'.isLt
  rw [outsAt0_A m c t h0]
  frame_out
  have zt := h0
  clear h0
  canon_tiles x h
  case piece4 | piece5 | piece6 | piece7 =>
    obtain ⟨a, l, rfl⟩ : ∃ (a l : Fin 128), x = ix2 a l := ⟨x 0, x 1, eq_ix2 x⟩
    have ha : a.val < 128 := a.isLt
    have hl : l.val < 128 := l.isLt
    simp only [ix2_0, ix2_1] at h0 h1
    clear x0_lt x1_lt
    pointwise [k0_pay66, k0_pay67, k0_pay68, k0_pay69, k0_pay70, k0_pay71]
    refine congrArg₂ (· * ·) (group0 m c t t' r e _ _ _ j _ _ ?_ ?_ ?_ ?_ ?_) (gate_eq m c t t' r a e ht h0 j _ _ ?_)
    · dsimp only; omega
    · intro a x; pointwise
    · intro a x; pointwise
    · intro R C
      generalize hX : View.canon (Val := Elt Ideal) (s := S2x2x256x1024) (e := .f32) _ = X
      pointwise
      refine carried1 X _ (fun f g R C => ?_) t R C _ _ _ _
      rw [← hX]
      refine Eq.trans ?_ ((scratchA m c t zt f g R C).trans (congrArg (biasAt · f g R C) (funext fun k => blk0 m c _ k)))
      rw [outsAt0_A m c t zt]
      frame_out
      pointwise
    · dsimp only; omega
    · omega
  case piece0 | piece1 | piece2 | piece3 =>
    obtain ⟨a, l, rfl⟩ : ∃ (a l : Fin 128), x = ix2 a l := ⟨x 0, x 1, eq_ix2 x⟩
    have ha : a.val < 128 := a.isLt
    have hl : l.val < 128 := l.isLt
    simp only [ix2_0, ix2_1] at h0 h1
    clear x0_lt x1_lt
    pointwise [k0_pay1, k0_pay75, k0_pay76, k0_pay77, k0_pay78, k0_pay79, k0_pay80, k0_pay81, k0_pay82, k0_pay83, k0_pay84]
    refine congrArg₂ (· * ·) (group1 m c t t' r e _ _ _ j _ _ ?_ ?_ ?_ ?_ ?_) (gate_eq m c t t' r a e ht h0 j _ _ ?_)
    · dsimp only; omega
    · intro a x; pointwise
    · intro a x; pointwise
    · intro R C
      generalize hX : View.canon (Val := Elt Ideal) (s := S2x2x256x1024) (e := .f32) _ = X
      pointwise
      refine carried2 X _ (fun f g R C => ?_) t R C _ _ _ _
      rw [← hX]
      refine Eq.trans ?_ ((scratchA m c t zt f g R C).trans (congrArg (biasAt · f g R C) (funext fun k => blk0 m c _ k)))
      rw [outsAt0_A m c t zt]
      frame_out
      pointwise
    · dsimp only; omega
    · omega

/-- The array the kernel leaves. -/
theorem final (c : Dev nD) (W : Buf (Elt Ideal) ((c : Thread nD τ).loc main_v1))
    (hW : ∀ (i : Fin 16384) (j : Fin 1024), W (ix2 i j) = swaAt (projs m c) (sinks m c) ⟨i.val / 128, by omega⟩ ⟨i.val % 128, by omega⟩ j) :
    (dats m 0 c).arrAt 7 (cfgs 0).N = W := by
  refine (dats m 0 c).arrAt_eq_of_covers 7 _ (by decide +kernel) fun t _ y => ?_
  obtain ⟨r, j, rfl⟩ : ∃ (a : Fin 128) (b : Fin 1024), y = ix2 a b := ⟨y 0, y 1, eq_ix2 y⟩
  have hi := idx t
  have ht := hi.2.2.2.2.2.2.2.2.2
  have e : ((cfg0.win 7).blk t).view.emb (ix2 r j) = ix2 (⟨t.val * 128 + r.val, by omega⟩ : Fin 16384) j := by
    blk_ext [hi]
  rw [e, hW]
  blk_simp
  rw [after0_7]
  have e1 : (⟨(t.val * 128 + r.val) / 128, by omega⟩ : Fin 128) = ⟨t.val, ht⟩ := Fin.ext (by dsimp only; omega)
  have e2 : (⟨(t.val * 128 + r.val) % 128, by omega⟩ : Fin 128) = r := Fin.ext (by dsimp only; omega)
  rw [e1, e2]
  by_cases h0 : t.val % 128 = 0
  · exact point_first m c t ⟨t.val, ht⟩ rfl h0 r j
  · exact point_later m c t ⟨t.val, ht⟩ rfl h0 r j

end Cert.KSwaIdeal.Value
end
-- ==== Proof.SwaRef.lean ====
/- The sliding-window attention of the reference, read at an entry, and its agreement with the kernel's. -/
module

public import proofs.«01_k».proof.Defs
public import proofs.«01_k».proof.Proof.Gen.RSwaIdeal.Run
public import proofs.«01_k».proof.Proof.Gen.Pre_finite_scores
public import proofs.«01_k».proof.Proof.SwaMath
public import proofs.«01_k».proof.Proof.SwaValue
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.RSwaIdeal.Value
open Cert.SwaMath Cert.RSwaIdeal
open Cert.KSwaIdeal.Value (neg_inf band_eq own_eq sel_bool and_bool)

variable (m' : (ℓ : Loc nD τ sig) → Buf (Elt Ideal) ℓ)

/-- Whether a query's row sees a key: inside the window, and not before the head of the sequence. -/
def sees (n : Fin 16) (q : Fin 128) (k : Fin 256) : Prop := (k.val ≤ q.val + 128 ∧ q.val < k.val) ∧ (0 < n.val ∨ 128 ≤ k.val)

instance (n : Fin 16) (q : Fin 128) : DecidablePred (sees n q) := fun k => by unfold sees; infer_instance

/-- A column of the keys or of the values over the two blocks that a block of queries sees. -/
def seen (P : Fin 16384 → Fin 7552 → EReal) (o : ℕ) (ho : o + 128 ≤ 7552) (b : Fin 8) (n : Fin 16) (l : Fin 128) (k : Fin 256) : EReal :=
  if h : k.val < 128 then if h' : 1 ≤ n.val then P ⟨b.val * 2048 + ((n.val - 1) * 128 + k.val), by omega⟩ ⟨o + l.val, by omega⟩ else 0
  else P ⟨b.val * 2048 + (n.val * 128 + (k.val - 128)), by omega⟩ ⟨o + l.val, by omega⟩

/-- The score of a query of a head and a key. -/
def score (P : Fin 16384 → Fin 7552 → EReal) (b : Fin 8) (n : Fin 16) (h : Fin 2) (g : Fin 8) (q : Fin 128) (k : Fin 256) : EReal :=
  ∑ x : Fin 64, seen P 7168 (by omega) b n ⟨h.val * 64 + x.val, by omega⟩ k * P ⟨b.val * 2048 + (n.val * 128 + q.val), by omega⟩ ⟨h.val * 512 + g.val * 64 + x.val, by omega⟩

/-- A row of scores of a head, its sink last. -/
def row (P : Fin 16384 → Fin 7552 → EReal) (s : Fin 16 → EReal) (b : Fin 8) (n : Fin 16) (h : Fin 2) (g : Fin 8) (q : Fin 128) : Fin 257 → EReal :=
  outer (sees n q) (score P b n h g q) (s ⟨h.val * 8 + g.val, by omega⟩)

/-- An entry of the reference's result. -/
def refAt (P : Fin 16384 → Fin 7552 → EReal) (s : Fin 16 → EReal) (b : Fin 8) (n : Fin 16) (h : Fin 2) (g : Fin 8) (q : Fin 128) (d : Fin 64) (x : EReal) : EReal :=
  (∑ k : Fin 256, Ideal.div (Ideal.exp (row P s b n h g q k.castSucc - Finset.univ.sup (row P s b n h g q)))
      (∑ k, Ideal.exp (row P s b n h g q k - Finset.univ.sup (row P s b n h g q)))
    * seen P 7296 (by omega) b n ⟨h.val * 64 + d.val, by omega⟩ k) * (x * Ideal.div 1 (1 + Ideal.exp (-x)))

/-- The positions of the scores that a reduction over the keys gathers. -/
theorem gathered (b : Fin 8) (n : Fin 16) (h : Fin 2) (g : Fin 8) (q : Fin 128) (i : S8x16x2x8x128x257.Idx) :
    Gen.reducesTo_S8x16x2x8x128x257_S8x16x2x8x128_d5.drop i = ix5 b n h g q ↔ ∃ k : Fin 257, ix6 b n h g q k = i := by
  constructor
  · intro e
    have c := fun a : Fin 5 => congrArg Fin.val (congrFun e a)
    refine ⟨i 5, funext fun a => Fin.ext ?_⟩
    fin_cases a
    exacts [(c 0).symm, (c 1).symm, (c 2).symm, (c 3).symm, (c 4).symm, rfl]
  · rintro ⟨k, rfl⟩
    exact funext fun a => Fin.ext (by fin_cases a <;> rfl)

/-- A maximum over the keys. -/
theorem max_keys (S : S8x16x2x8x128x257.Idx → EReal) (b : Fin 8) (n : Fin 16) (h : Fin 2) (g : Fin 8) (q : Fin 128) (e : EReal) :
    (Finset.univ.filter fun i => Gen.reducesTo_S8x16x2x8x128x257_S8x16x2x8x128_d5.drop i = ix5 b n h g q).fold max e S
      = Finset.univ.fold max e fun k : Fin 257 => S (ix6 b n h g q k) :=
  Finset.fold_filter_eq_fold_of_fiber max _ (fun k : Fin 257 => ix6 b n h g q k) (fun _ _ e => congrFun e 5) (gathered b n h g q) e S

/-- A sum over the keys. -/
theorem sum_keys (S : S8x16x2x8x128x257.Idx → EReal) (b : Fin 8) (n : Fin 16) (h : Fin 2) (g : Fin 8) (q : Fin 128) (e : EReal) :
    Ideal.hostReduceAdd Gen.reducesTo_S8x16x2x8x128x257_S8x16x2x8x128_d5 S e (ix5 b n h g q) = e + ∑ k : Fin 257, S (ix6 b n h g q k) :=
  congrArg (e + ·) (Finset.sum_filter_eq_sum_of_fiber _ (fun k : Fin 257 => ix6 b n h g q k) (fun _ _ e => congrFun e 5) (gathered b n h g q) S)

/-- Whether a block of queries has a block before it, or the key is its own. -/
theorem start_eq : ∀ (n : Fin 16) (k : Fin 256), IntOp.ori (IntOp.cmpi CmpIPredicate.sgt (BitVec.ofNat 32 n.val) 0#32)
    (IntOp.cmpi CmpIPredicate.sge (BitVec.ofNat 32 k.val) 128#32) = BitVec.ofBool (decide (0 < n.val ∨ 128 ≤ k.val)) := by
  decide +kernel

/-- The maximum the reference takes over a row of scores. -/
theorem reduce_max (S : FVec Ideal S8x16x2x8x128x257 .f32) (b : Fin 8) (n : Fin 16) (h : Fin 2) (g : Fin 8) (q : Fin 128) :
    Host.reduce FloatOps.maximumf S (constant S_ FTy.f32 4286578688#32) Gen.reducesTo_S8x16x2x8x128x257_S8x16x2x8x128_d5 Gen.h_S_ (ix5 b n h g q)
      = Finset.univ.sup fun k : Fin 257 => S (ix6 b n h g q k) := by
  rw [Host.reduce_eq_fold, ← fold_max, ← neg_inf]
  exact max_keys S b n h g q _

/-- The sum the reference takes over a row of weights. -/
theorem reduce_add (S : FVec Ideal S8x16x2x8x128x257 .f32) (b : Fin 8) (n : Fin 16) (h : Fin 2) (g : Fin 8) (q : Fin 128) :
    Host.reduceAdd S (constant S_ FTy.f32 0#32) Gen.reducesTo_S8x16x2x8x128x257_S8x16x2x8x128_d5 Gen.h_S_ (ix5 b n h g q)
      = ∑ k : Fin 257, S (ix6 b n h g q k) := by
  refine (sum_keys S b n h g q _).trans ?_
  have e : constant (F := Ideal) S_ FTy.f32 0#32 (Shape.Idx.first Gen.h_S_) = (0 : EReal) := by pointwise
  rw [e, zero_add]

set_option maxRecDepth 200000 in
/-- The values' weighted sum, with the heads side by side. -/
theorem weighted (D : FVec Ideal S8x16x2x8x128x256 .f32) (V : FVec Ideal S8x16x256x2x64 .f32) (b : Fin 8) (i : Fin 2048) (j : Fin 1024) :
    shapeCast S8x2048x1024
            (transpose S8x16x128x2x8x64 [0, 1, 5, 2, 4, 3]
              (Host.dotGeneral dot_S8x16x256x2x64_S8x16x2x8x128x256_S8x16x2x64x8x128_2_5_4_34_013_012 none V D)
              Gen.transposes_S8x16x2x64x8x128_S8x16x128x2x8x64_0_1_5_2_4_3)
            Gen.shapeCasts_S8x16x128x2x8x64_S8x2048x1024 (ix3 b i j)
      = ∑ k : Fin 256, V (ix5 b ⟨i.val / 128, by omega⟩ k ⟨j.val / 512, by omega⟩ ⟨j.val % 64, by omega⟩)
          * D (ix6 b ⟨i.val / 128, by omega⟩ ⟨j.val / 512, by omega⟩ ⟨j.val / 64 % 8, by omega⟩ ⟨i.val % 128, by omega⟩ k) := by
  pointwise

set_option maxRecDepth 200000 in
/-- The gating of the attention's output, and the result's rounding. -/
theorem gated (A : FVec Ideal S8x2048x1024 .f32) (P : FVec Ideal S16384x7552 .bf16) (r : Fin 16384) (j : Fin 1024) :
    (truncf FTy.bf16 (shapeCast { rank := 2, size := ![16384, 1024] }
        (mulf A
          (mulf
            (extractStridedSlice S8x2048x1024 ![0, 0, 1024]
              (shapeCast S8x2048x7552 (extf FTy.f32 P Gen.bitsLt_bf16_f32) Gen.shapeCasts_S16384x7552_S8x2048x7552)
              Gen.slices_S8x2048x7552_S8x2048x1024_0_0_1024)
            (Host.divf (broadcastInDim S8x2048x1024 ![] Gen.bcast_S_S8x2048x1024 (constant S_ FTy.f32 1065353216#32))
              (addf (broadcastInDim S8x2048x1024 ![] Gen.bcast_S_S8x2048x1024 (constant S_ FTy.f32 1065353216#32))
                (Host.exp
                  (Host.negf
                    (extractStridedSlice S8x2048x1024 ![0, 0, 1024]
                      (shapeCast S8x2048x7552 (extf FTy.f32 P Gen.bitsLt_bf16_f32)
                        Gen.shapeCasts_S16384x7552_S8x2048x7552)
                      Gen.slices_S8x2048x7552_S8x2048x1024_0_0_1024)))))))
        Gen.shapeCasts_S8x2048x1024_S16384x1024)
      Gen.bitsLt_bf16_f32 : FVec Ideal S16384x1024 .bf16) (ix2 r j) = A (ix3 ⟨r.val / 2048, by omega⟩ ⟨r.val % 2048, by omega⟩ j)
        * (P (ix2 r ⟨1024 + j.val, by omega⟩) * Ideal.div 1 (1 + Ideal.exp (-(P (ix2 r ⟨1024 + j.val, by omega⟩))))) := by
  pointwise

set_option maxRecDepth 200000 in
/-- A score less the row's maximum. -/
theorem weights (S : FVec Ideal S8x16x2x8x128x257 .f32) (M : FVec Ideal S8x16x2x8x128 .f32) (b : Fin 8) (n : Fin 16) (h : Fin 2) (g : Fin 8) (q : Fin 128) (k : Fin 257) :
    (subf S
                        (broadcastInDim S8x16x2x8x128x257 ![0, 1, 2, 3, 4, 5]
                          Gen.bcast_S8x16x2x8x128x1_S8x16x2x8x128x257_0_1_2_3_4_5
                          (broadcastInDim S8x16x2x8x128x1 ![0, 1, 2, 3, 4]
                            Gen.bcast_S8x16x2x8x128_S8x16x2x8x128x1_0_1_2_3_4
                            (maximumf
                              (broadcastInDim S8x16x2x8x128 ![] Gen.bcast_S_S8x16x2x8x128
                                (constant S_ FTy.f32 4286578688#32)) M)))) (ix6 b n h g q k) = S (ix6 b n h g q k) - M (ix5 b n h g q) := by
  pointwise
  rw [neg_inf, max_eq_right bot_le]

set_option maxRecDepth 200000 in
/-- A weight over the row's sum, without the sink's column. -/
theorem shares (E : FVec Ideal S8x16x2x8x128x257 .f32) (Z : FVec Ideal S8x16x2x8x128 .f32) (b : Fin 8) (n : Fin 16) (h : Fin 2) (g : Fin 8) (q : Fin 128) (k : Fin 256) :
    extractStridedSlice S8x16x2x8x128x256 ![0, 0, 0, 0, 0, 0] (Host.divf E
                    (broadcastInDim S8x16x2x8x128x257 ![0, 1, 2, 3, 4, 5]
                      Gen.bcast_S8x16x2x8x128x1_S8x16x2x8x128x257_0_1_2_3_4_5
                      (broadcastInDim S8x16x2x8x128x1 ![0, 1, 2, 3, 4] Gen.bcast_S8x16x2x8x128_S8x16x2x8x128x1_0_1_2_3_4 Z)))
                  Gen.slices_S8x16x2x8x128x257_S8x16x2x8x128x256_0_0_0_0_0_0 (ix6 b n h g q k) = Ideal.div (E (ix6 b n h g q k.castSucc)) (Z (ix5 b n h g q)) := by
  pointwise
  try rfl

/-- The reference's padded keys or values, at an entry. -/
theorem close_seen (P : Fin 16384 → Fin 7552 → EReal) (o : ℕ) (ho : o + 128 ≤ 7552) (b : Fin 8) (n : Fin 16) (l : Fin 128) (k : Fin 256) (z : EReal) (hz : z = 0) :
    (if h : k.val < 128 then
      if h' : (1 ≤ n.val ∧ n.val - 1 < 16) ∧ k.val < 128 then P ⟨b.val * 2048 + ((n.val - 1) * 128 + k.val), by omega⟩ ⟨o + l.val, by omega⟩ else z
      else P ⟨b.val * 2048 + (n.val * 128 + (k.val - 128)), by omega⟩ ⟨o + l.val, by omega⟩) = seen P o ho b n l k := by
  unfold seen
  by_cases h : k.val < 128
  · rw [dif_pos h, dif_pos h]
    by_cases h' : 1 ≤ n.val
    · rw [dif_pos h', dif_pos ⟨⟨h', by omega⟩, h⟩]
    · rw [dif_neg h', dif_neg fun x => h' x.1.1, hz]
  · rw [dif_neg h, dif_neg h]

/-- A row of masked scores with the sink after it, at an entry. -/
theorem close_row (n : Fin 16) (q : Fin 128) (k : Fin 257) (f : Fin 256 → EReal) (A : k.val < 256 → EReal) (w : BitVec 1) (z x : EReal)
    (hw : ∀ h : k.val < 256, w = BitVec.ofBool (decide (sees n q ⟨k.val, h⟩))) (hA : ∀ h : k.val < 256, A h = f ⟨k.val, h⟩) (hz : z = ⊥) :
    (if h : k.val < 256 then Scalar.select w (A h) z else x) = outer (sees n q) f x k := by
  unfold outer
  by_cases h : k.val < 256
  · rw [dif_pos h, dif_pos h, hw h, hA h, hz, sel_bool]
  · rw [dif_neg h, dif_neg h]

/-- The padding is zero. -/
theorem pad_zero : (FloatOps.sitofp FTy.f32 (0#32) : Ideal FTy.f32) = (0 : EReal) := by
  simp [FloatOps.sitofp]

set_option maxRecDepth 200000 in
set_option maxHeartbeats 1000000 in
/-- The reference's result at an entry. -/
theorem ref_apply (c : Dev nD) (P : FVec Ideal S16384x7552 .bf16) (s : FVec Ideal S1x16 .f32)
    (h0 : m' ((c.tc : Thread nD τ).loc main_arg0) = P) (h1 : m' ((c.tc : Thread nD τ).loc main_arg1) = s) (r : Fin 16384) (j : Fin 1024) :
    res_out0 m' c (ix2 r j) = refAt (fun i j => P (ix2 i j)) (fun k => s (ix2 0 k)) ⟨r.val / 2048, by omega⟩ ⟨r.val % 2048 / 128, by omega⟩
      ⟨j.val / 512, by omega⟩ ⟨j.val / 64 % 8, by omega⟩ ⟨r.val % 2048 % 128, by omega⟩ ⟨j.val % 64, by omega⟩ (P (ix2 r ⟨1024 + j.val, by omega⟩)) := by
  unfold res_out0 res_main_v70
  rw [h0, h1]
  clean_types
  generalize hS : concatenate S8x16x2x8x128x257 5 _ _ = S
  generalize hV : concatenate S8x16x256x2x64 2 _ _ = V
  have rV : ∀ (b : Fin 8) (n : Fin 16) (k : Fin 256) (h : Fin 2) (d : Fin 64), V (ix5 b n k h d) = seen (fun i j => P (ix2 i j)) 7296 (by omega) b n ⟨h.val * 64 + d.val, by omega⟩ k := by
    intro b n k h d
    rw [← hV]
    pointwise
    exact close_seen (fun i j => P (ix2 i j)) 7296 (by omega) b n ⟨h.val * 64 + d.val, by omega⟩ k _ pad_zero
  have rS : ∀ (b : Fin 8) (n : Fin 16) (h : Fin 2) (g : Fin 8) (q : Fin 128) (k : Fin 257), S (ix6 b n h g q k) = row (fun i j => P (ix2 i j)) (fun k => s (ix2 0 k)) b n h g q k := by
    intro b n h g q k
    rw [← hS]
    pointwise
    refine close_row n q k (score (fun i j => P (ix2 i j)) b n h g q) (fun _ => _) _ _ _ (fun hk => ?_) (fun hk => ?_) neg_inf
    · have eb := band_eq q ⟨k.val, hk⟩
      have es := start_eq n ⟨k.val, hk⟩
      dsimp only at eb es
      rw [eb, es, and_bool]
      rfl
    · refine Finset.sum_congr rfl fun x _ => ?_
      exact congrArg (· * _) (close_seen (fun i j => P (ix2 i j)) 7168 (by omega) b n ⟨h.val * 64 + x.val, by omega⟩ ⟨k.val, hk⟩ _ pad_zero)
  clear hS hV
  generalize hM : Host.reduce FloatOps.maximumf S _ _ _ = M
  have rM : ∀ (b : Fin 8) (n : Fin 16) (h : Fin 2) (g : Fin 8) (q : Fin 128), M (ix5 b n h g q) = Finset.univ.sup (row (fun i j => P (ix2 i j)) (fun k => s (ix2 0 k)) b n h g q) := by
    intro b n h g q
    rw [← hM, reduce_max]
    exact congrArg Finset.univ.sup (funext fun k => rS b n h g q k)
  clear hM
  generalize hE : Host.exp (subf S _) = E
  have rE : ∀ (b : Fin 8) (n : Fin 16) (h : Fin 2) (g : Fin 8) (q : Fin 128) (k : Fin 257), E (ix6 b n h g q k) = Ideal.exp (row (fun i j => P (ix2 i j)) (fun k => s (ix2 0 k)) b n h g q k - Finset.univ.sup (row (fun i j => P (ix2 i j)) (fun k => s (ix2 0 k)) b n h g q)) := by
    intro b n h g q k
    rw [← hE]
    refine congrArg Ideal.exp ((weights S M b n h g q k).trans ?_)
    rw [rS, rM]
  clear hE
  generalize hZ : Host.reduceAdd E _ _ _ = Z
  have rZ : ∀ (b : Fin 8) (n : Fin 16) (h : Fin 2) (g : Fin 8) (q : Fin 128), Z (ix5 b n h g q) = ∑ k, Ideal.exp (row (fun i j => P (ix2 i j)) (fun k => s (ix2 0 k)) b n h g q k - Finset.univ.sup (row (fun i j => P (ix2 i j)) (fun k => s (ix2 0 k)) b n h g q)) := by
    intro b n h g q
    rw [← hZ, reduce_add]
    exact Finset.sum_congr rfl fun k _ => rE b n h g q k
  clear hZ
  refine (gated _ P r j).trans (congrArg (· * _) ((weighted _ V _ _ _).trans ?_))
  refine Finset.sum_congr rfl fun k _ => ?_
  rw [shares, rE, rZ, rV]
  exact mul_comm _ _

end Cert.RSwaIdeal.Value
end
-- ==== Proof.SwaClaim.lean ====
/- The sliding-window attention of the kernel and of the reference agree where the scores are finite. -/
module

public import proofs.«01_k».proof.Defs
public import proofs.«01_k».proof.Proof.Gen.Pre_finite_scores
public import proofs.«01_k».proof.Proof.SwaRef
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.SwaClaim
open Cert.SwaMath
open Cert.KSwaIdeal.Value (kv headRow gate swaAt biasAt projs sinks before before_le)
open Cert.RSwaIdeal.Value (sees seen score row refAt)

/-- One half, as the kernel writes it. -/
theorem half : Ideal.ofBits FTy.f32 1056964608#32 = ((1 / 2 : ℝ) : EReal) := by
  simp [Ideal.ofBits, Ideal.ieee]
  rw [← EReal.coe_mul]
  norm_num

/-- The hyperbolic tangent of half a number gives its logistic value. -/
theorem logistic (x : ℝ) : 1 / 2 * Real.tanh (1 / 2 * x) + 1 / 2 = 1 / (1 + Real.exp (-x)) := by
  have e : Real.exp (-(1 / 2 * x)) * Real.exp (1 / 2 * x) = 1 := by rw [← Real.exp_add]; simp
  have e2 : Real.exp (-x) = Real.exp (-(1 / 2 * x)) * Real.exp (-(1 / 2 * x)) := by rw [← Real.exp_add]; congr 1; ring
  have p := Real.exp_pos (1 / 2 * x)
  have p' := Real.exp_pos (-(1 / 2 * x))
  rw [Real.tanh_eq_sinh_div_cosh, Real.sinh_eq, Real.cosh_eq, e2]
  generalize Real.exp (1 / 2 * x) = a at *
  generalize Real.exp (-(1 / 2 * x)) = c at *
  have q : a + c ≠ 0 := by positivity
  have q' : 1 + c * c ≠ 0 := by positivity
  field_simp
  linear_combination 2 * c * e

/-- The two gates are one function. -/
theorem gate_logistic (x : EReal) : gate x = x * Ideal.div 1 (1 + Ideal.exp (-x)) := by
  unfold gate
  rw [half]
  refine congrArg (x * ·) ?_
  induction x using EReal.rec with
  | bot =>
    rw [EReal.coe_mul_bot_of_pos (by norm_num), EReal.neg_bot]
    show ((1 / 2 : ℝ) : EReal) * (-1) + ((1 / 2 : ℝ) : EReal) = Ideal.div 1 (1 + ⊤)
    rw [show (1 : EReal) + ⊤ = ⊤ from EReal.coe_add_top 1]
    unfold Ideal.div
    rw [if_neg (by simp), EReal.inv_top, mul_zero, mul_neg, mul_one, ← EReal.coe_neg, ← EReal.coe_add, neg_add_cancel]
    rfl
  | top =>
    rw [EReal.coe_mul_top_of_pos (by norm_num), EReal.neg_top]
    show ((1 / 2 : ℝ) : EReal) * 1 + ((1 / 2 : ℝ) : EReal) = Ideal.div 1 (1 + 0)
    unfold Ideal.div
    rw [add_zero, if_neg (by simp), mul_one, inv_one, mul_one]
    norm_cast
    norm_num
  | coe x =>
    have p := Real.exp_pos (-x)
    rw [← EReal.coe_mul, ← EReal.coe_neg]
    show ((1 / 2 : ℝ) : EReal) * ((Real.tanh (1 / 2 * x) : ℝ) : EReal) + ((1 / 2 : ℝ) : EReal) = Ideal.div 1 (1 + ((Real.exp (-x) : ℝ) : EReal))
    have e : (1 : EReal) + ((Real.exp (-x) : ℝ) : EReal) = ((1 + Real.exp (-x) : ℝ) : EReal) := by norm_cast
    unfold Ideal.div
    rw [e, if_neg (by norm_cast; positivity), ← EReal.coe_inv, one_mul, ← EReal.coe_mul, ← EReal.coe_add, logistic, one_div]

/-- A row of the kernel's scores, without its bias. -/
def raw (P : Fin 16384 → Fin 7552 → EReal) (t q : Fin 128) (H : Fin 16) (k : Fin 256) : EReal :=
  ∑ d : Fin 64, P ⟨t.val * 128 + q.val, by omega⟩ ⟨64 * H.val + d.val, by omega⟩ * kv P 7168 (by omega) t ⟨64 * (H.val / 8) + d.val, by omega⟩ k

section
variable (P : Fin 16384 → Fin 7552 → EReal) (sink : Fin 16 → EReal) (t : Fin 128) (b : Fin 8) (n : Fin 16) (q : Fin 128) (et : t.val = b.val * 16 + n.val)
  (H : Fin 16) (h : Fin 2) (g : Fin 8) (eH : H.val = h.val * 8 + g.val)
include et

/-- At a key the query sees, both programs read the same row. -/
theorem seen_kv (o : ℕ) (ho : o + 128 ≤ 7552) (l l' : Fin 128) (el : l.val = l'.val) (k : Fin 256) (hk : sees n q k) :
    seen P o ho b n l k = kv P o ho t l' k := by
  obtain ⟨⟨hk1, hk2⟩, hk3⟩ := hk
  have hb : n.val = 0 ∨ before t.val = t.val - 1 := by
    unfold before
    by_cases hn : n.val = 0
    · exact Or.inl hn
    · exact Or.inr (if_neg (by omega))
  unfold seen kv
  rw [if_neg (by omega)]
  by_cases hc : k.val < 128
  · rw [dif_pos hc, dif_pos hc, dif_pos (by omega)]
    exact congrArg₂ P (Fin.ext (by dsimp only; omega)) (Fin.ext (by dsimp only; omega))
  · rw [dif_neg hc, dif_neg hc]
    exact congrArg₂ P (Fin.ext (by dsimp only; omega)) (Fin.ext (by dsimp only; omega))

/-- The kernel's biased scores are the masked ones with the sink first. -/
theorem head_inner : headRow P sink t q H = Cert.SwaMath.inner (sees n q) (raw P t q H) (sink H) := by
  funext k
  unfold headRow Cert.SwaMath.inner
  by_cases hk : k.val = 0
  · rw [if_pos hk]
    have hz : ∀ d : Fin 64, kv P 7168 (by omega) t ⟨64 * (H.val / 8) + d.val, by omega⟩ k = 0 := fun d => if_pos hk
    unfold biasAt
    rw [if_pos (by dsimp only; omega), Finset.sum_eq_zero fun d _ => by rw [hz d, mul_zero], zero_add]
    exact congrArg sink (Fin.ext (by dsimp only; omega))
  · rw [if_neg hk]
    have hp : (((⟨if t.val % 16 = 0 then 1 else 0, by split <;> omega⟩ : Fin 2).val = 1 → 128 ≤ (256 * (H.val % 4) + k.val) % 256)
        ∧ (256 * (H.val % 4) + k.val) % 256 ≤ (128 * (H.val % 8 / 4) + q.val) % 128 + 128 ∧ (128 * (H.val % 8 / 4) + q.val) % 128 < (256 * (H.val % 4) + k.val) % 256) ↔ sees n q k := by
      have hf : ((⟨if t.val % 16 = 0 then 1 else 0, by split <;> omega⟩ : Fin 2).val = 1) ↔ n.val = 0 := by
        dsimp only
        by_cases hn : n.val = 0
        · rw [if_pos (by omega)]; exact ⟨fun _ => hn, fun _ => rfl⟩
        · rw [if_neg (by omega)]; exact ⟨fun x => absurd x (by decide), fun x => absurd x hn⟩
      rw [hf]
      unfold sees
      omega
    unfold biasAt
    rw [if_neg (by dsimp only; omega)]
    by_cases hs : sees n q k
    · rw [if_pos (hp.2 hs), if_pos hs, add_zero]; rfl
    · rw [if_neg (fun x => hs (hp.1 x)), if_neg hs, EReal.add_bot]

include eH

/-- At a key the query sees, the two scores agree. -/
theorem score_raw (k : Fin 256) (hk : sees n q k) : score P b n h g q k = raw P t q H k := by
  unfold score raw
  refine Finset.sum_congr rfl fun d _ => ?_
  rw [mul_comm, seen_kv P t b n q et 7168 (by omega) _ ⟨64 * (H.val / 8) + d.val, by omega⟩ (by dsimp only; omega) k hk]
  refine congrArg (· * _) ?_
  exact congrArg₂ P (Fin.ext (by dsimp only; omega)) (Fin.ext (by dsimp only; omega))

/-- The two attentions agree. -/
theorem attention (hq : ∀ (i : Fin 16384) (j : Fin 7552), j.val < 1024 → ∃ x : ℝ, P i j = x) (hk : ∀ (i : Fin 16384) (j : Fin 7552), 7168 ≤ j.val → j.val < 7296 → ∃ x : ℝ, P i j = x)
    (hs : ∀ k, ∃ x : ℝ, sink k = x) (l l' : Fin 128) (el : l.val = l'.val) :
    soft (headRow P sink t q H) (kv P 7296 (by omega) t l')
      = ∑ k : Fin 256, Ideal.div (Ideal.exp (row P sink b n h g q k.castSucc - Finset.univ.sup (row P sink b n h g q)))
          (∑ k, Ideal.exp (row P sink b n h g q k - Finset.univ.sup (row P sink b n h g q))) * seen P 7296 (by omega) b n l k := by
  obtain ⟨x, hx⟩ := hs H
  have e1 : row P sink b n h g q = outer (sees n q) (score P b n h g q) (x : EReal) := by
    unfold row
    rw [← hx]
    exact congrArg (fun i => outer (sees n q) (score P b n h g q) (sink i)) (Fin.ext eH.symm)
  have e2 : kv P 7296 (by omega) t l' = fun k => if k.val = 0 then 0 else kv P 7296 (by omega) t l' k := by
    funext k
    by_cases h0 : k.val = 0
    · rw [if_pos h0]; exact if_pos h0
    · rw [if_neg h0]
  rw [head_inner P sink t b n q et H, hx, e1, e2]
  unfold soft
  refine softmax_sink (sees n q) (raw P t q H) (kv P 7296 (by omega) t l') (score P b n h g q) (seen P 7296 (by omega) b n l) x ?_ ?_ ?_ ?_
  · exact fun h0 => absurd h0.1.2 (Nat.not_lt_zero _)
  · intro k _
    refine sum_real _ _ fun d _ => ?_
    obtain ⟨u, hu⟩ := hq ⟨t.val * 128 + q.val, by omega⟩ ⟨64 * H.val + d.val, by omega⟩ (by dsimp only; omega)
    have hkv : ∃ v : ℝ, kv P 7168 (by omega) t ⟨64 * (H.val / 8) + d.val, by omega⟩ k = v := by
      unfold kv
      by_cases h0 : k.val = 0
      · rw [if_pos h0]; exact ⟨0, rfl⟩
      · rw [if_neg h0]
        by_cases h1 : k.val < 128
        · rw [dif_pos h1]; exact hk _ _ (by dsimp only; omega) (by dsimp only; omega)
        · rw [dif_neg h1]; exact hk _ _ (by dsimp only; omega) (by dsimp only; omega)
    obtain ⟨v, hv⟩ := hkv
    exact ⟨u * v, by rw [hu, hv, EReal.coe_mul]⟩
  · exact fun k hk => score_raw P t b n q et H h g eH k hk
  · exact fun k hk => seen_kv P t b n q et 7296 (by omega) l l' el k hk

end

/-- The kernel's entry is the reference's. -/
theorem swa_ref (P : Fin 16384 → Fin 7552 → EReal) (sink : Fin 16 → EReal)
    (hq : ∀ (i : Fin 16384) (j : Fin 7552), j.val < 1024 → ∃ x : ℝ, P i j = x) (hk : ∀ (i : Fin 16384) (j : Fin 7552), 7168 ≤ j.val → j.val < 7296 → ∃ x : ℝ, P i j = x)
    (hs : ∀ k, ∃ x : ℝ, sink k = x) (r : Fin 16384) (j : Fin 1024) :
    refAt P sink ⟨r.val / 2048, by omega⟩ ⟨r.val % 2048 / 128, by omega⟩ ⟨j.val / 512, by omega⟩ ⟨j.val / 64 % 8, by omega⟩ ⟨r.val % 2048 % 128, by omega⟩ ⟨j.val % 64, by omega⟩ (P r ⟨1024 + j.val, by omega⟩)
      = swaAt P sink ⟨r.val / 128, by omega⟩ ⟨r.val % 128, by omega⟩ j := by
  unfold refAt swaAt
  rw [gate_logistic]
  have eq : (⟨r.val % 128, by omega⟩ : Fin 128) = ⟨r.val % 2048 % 128, by omega⟩ := Fin.ext (by dsimp only; omega)
  have er : (⟨r.val / 128 * 128 + r.val % 128, by omega⟩ : Fin 16384) = r := Fin.ext (by dsimp only; omega)
  refine congrArg₂ (· * ·) ?_ ?_
  · rw [eq]
    exact (attention P sink ⟨r.val / 128, by omega⟩ ⟨r.val / 2048, by omega⟩ ⟨r.val % 2048 / 128, by omega⟩ ⟨r.val % 2048 % 128, by omega⟩ (by dsimp only; omega)
      ⟨j.val / 64, by omega⟩ ⟨j.val / 512, by omega⟩ ⟨j.val / 64 % 8, by omega⟩ (by dsimp only; omega) hq hk hs _ _ (by dsimp only; omega)).symm
  · dsimp only
    rw [er]

/-- A number of finite magnitude is real. -/
theorem real_of_finite (x : EReal) (h : BitVec.ofBool (decide (max x (-x) < Ideal.ofBits FTy.f32 2139095040#32)) = 1#1) : ∃ y : ℝ, x = y := by
  have e : Ideal.ofBits FTy.f32 2139095040#32 = ⊤ := by simp [Ideal.ofBits, Ideal.ieee]
  rw [e] at h
  have hl : max x (-x) < ⊤ := by
    by_contra hc
    rw [decide_eq_false hc] at h
    exact absurd h (by decide)
  induction x using EReal.rec with
  | bot => simp at hl
  | top => simp at hl
  | coe x => exact ⟨x, rfl⟩

/-- What the precondition says of the queries, the keys and the sinks. -/
theorem pre_facts (A : FVec Ideal Cert.Pre_finite_scores.S16384x7552 .bf16) (B : FVec Ideal Cert.Pre_finite_scores.S1x16 .f32)
    (h1 : (Cert.Pre_finite_scores.fn (F := Ideal) A B).1 = fun _ => 1#1) (h2 : (Cert.Pre_finite_scores.fn (F := Ideal) A B).2.1 = fun _ => 1#1)
    (h3 : (Cert.Pre_finite_scores.fn (F := Ideal) A B).2.2 = fun _ => 1#1) :
    (∀ (i : Fin 16384) (j : Fin 7552), j.val < 1024 → ∃ x : ℝ, A (ix2 i j) = x) ∧ (∀ (i : Fin 16384) (j : Fin 7552), 7168 ≤ j.val → j.val < 7296 → ∃ x : ℝ, A (ix2 i j) = x)
      ∧ ∀ k : Fin 16, ∃ x : ℝ, B (ix2 0 k) = x := by
  unfold Cert.Pre_finite_scores.fn at h1 h2 h3
  dsimp only at h1 h2 h3
  refine ⟨fun i j hj => ?_, fun i j hj hj' => ?_, fun k => ?_⟩
  · have h := congrFun h1 (ix2 i ⟨j.val, hj⟩)
    pointwise at h
    exact real_of_finite _ h
  · have h := congrFun h2 (ix2 i (⟨j.val - 7168, by omega⟩ : Fin 128))
    pointwise at h
    have e : (⟨7168 + (j.val - 7168), by omega⟩ : Fin 7552) = j := Fin.ext (by dsimp only; omega)
    rw [e] at h
    exact real_of_finite _ h
  · have h := congrFun h3 (ix2 0 k)
    pointwise at h
    exact real_of_finite _ h

end Cert.SwaClaim

namespace Cert.Proof

/-- The mask the kernel writes is minus infinity in its ideal reading. -/
theorem preserves_swa : Cert.preserves_KSwa_KSwaIdeal := by
  unfold Cert.preserves_KSwa_KSwaIdeal
  exact IdealRules.named_const.statement Cert.KSwaIdeal.κ "mask" .f32 0xF149F2CA#32 ⊥ rfl

open Cert.KSwaIdeal.Value in
/-- Where the scores are finite, the attention kernel and the layer's attention leave the same array. -/
theorem algebraic_swa : Cert.algebraic_KSwaIdeal_RSwaIdeal_pre_finite_scores (hKSwaIdeal := Cert.KSwaIdeal.Gen.facts) (hRSwaIdeal := Cert.RSwaIdeal.Gen.facts)
    (hPre_finite_scores := Cert.Pre_finite_scores.Gen.facts) := by
  pair_intro
  · run_from Cert.KSwaIdeal.Value.run_blocks m g
  · run_from Cert.RSwaIdeal.Value.run m' g'
    obtain ⟨h0, h1⟩ := hagree c
    obtain ⟨p1, p2, p3⟩ := hpre c
    obtain ⟨hq, hk, hs⟩ := Cert.SwaClaim.pre_facts _ _ p1 p2 p3
    refine (final m c (Cert.RSwaIdeal.Value.res_out0 m' c) fun r j => ?_).symm
    exact (Cert.RSwaIdeal.Value.ref_apply m' c _ _ h0 h1 r j).trans (Cert.SwaClaim.swa_ref (projs m c) (sinks m c) hq hk hs r j)

end Cert.Proof
end
-- ==== Proof.ProjValue.lean ====
/- The input projection at the extended reals: the array the kernel leaves is the reference's. -/
module

public import proofs.«01_k».proof.Defs
public import proofs.«01_k».proof.Proof.Gen.KProjIdeal.Value
public import proofs.«01_k».proof.Proof.Gen.RProjIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KProjIdeal.Value
open Cert.KProjIdeal Cert.KProjIdeal.Gen

variable (m : (ℓ : Loc nD τ sig) → Buf (Elt Ideal) ℓ)
variable (m' : (ℓ : Loc Cert.RProjIdeal.nD Cert.RProjIdeal.τ Cert.RProjIdeal.sig) → Buf (Elt Ideal) ℓ)

/-- The lanes that lie in the first half of a head. -/
theorem mask_apply (x0 : Vec Ideal S512x1024 .f32) (x1 : Vec Ideal S512x1 .i32) (x2 : Vec Ideal S1x1024 .f32) (x3 : Vec Ideal S1x128 .f32) (x4 : Vec Ideal S1024x7552 .bf16) (l : Fin 128) :
    k0_pay101 x0 x1 x2 x3 x4 (ix2 0 l) = if l.val % 64 < 32 then 1#1 else 0#1 := by
  have : ∀ l : Fin 128, k0_pay12 k0_pay9 k0_pay10 k0_pay11 (ix2 0 l) = if l.val % 64 < 32 then 1#1 else 0#1 := by
    intro l
    pointwise [k0_pay12, k0_pay9, k0_pay10, k0_pay11]
    revert l; decide +kernel
  exact this l

/-- One column of the projection: the row times the column of the weights. -/
def lin (h : Fin 1024 → EReal) (w : Fin 1024 → Fin 7552 → EReal) (n : Fin 7552) : EReal := ∑ d, h d * w d n

/-- One column rotated. -/
def rot (h : Fin 1024 → EReal) (w : Fin 1024 → Fin 7552 → EReal) (cs sn : Fin 128 → EReal) (n : Fin 7552) : EReal :=
  lin h w n * cs ⟨n.val % 128, by omega⟩ +
    (if n.val % 64 < 32 then lin h w ⟨(n.val + 32) % 7552, by omega⟩ else lin h w ⟨n.val - 32, by omega⟩) * sn ⟨n.val % 128, by omega⟩

def colOut (h : Fin 1024 → EReal) (w : Fin 1024 → Fin 7552 → EReal) (cs sn : Fin 128 → EReal) (n : Fin 7552) : EReal :=
  if n.val < 1024 then rot h w cs sn n * Ideal.ofBits FTy.f32 0x3E000000#32
  else if 7168 ≤ n.val ∧ n.val < 7296 then rot h w cs sn n else lin h w n

/-- A stored column that is one product. -/
theorem close_lin (hv : FVec Ideal S512x1024 .bf16) (x4 : Vec Ideal S1024x7552 .bf16) (cs sn : Fin 128 → EReal) (r : Fin 512) (n c : Fin 7552)
    (hc : c.val = n.val) (hn : 1024 ≤ n.val ∧ ¬(7168 ≤ n.val ∧ n.val < 7296)) :
    ∑ x, hv (ix2 r x) * x4 (ix2 x c) = colOut (fun k => hv (ix2 r k)) (fun d n => x4 (ix2 d n)) cs sn n := by
  obtain rfl : c = n := Fin.ext hc
  rw [colOut, if_neg (by omega), if_neg hn.2]
  rfl

/-- A rotated column. -/
theorem close_rot (hv : FVec Ideal S512x1024 .bf16) (x4 : Vec Ideal S1024x7552 .bf16) (cv sv : FVec Ideal S512x128 .f32) (mk : IVec S1x128 1)
    (hk : ∀ l : Fin 128, mk (ix2 0 l) = if l.val % 64 < 32 then 1#1 else 0#1) (r : Fin 512) (l : Fin 128) (n c0 c1 c2 : Fin 7552)
    (hl : n.val % 128 = l.val) (h0 : c0.val = n.val) (h1 : c1.val + l.val = n.val + (l.val + 128 - 96) % 128) (h2 : c2.val + l.val = n.val + (l.val + 128 - 32) % 128) (hn : n.val < 7500) :
    (∑ x, hv (ix2 r x) * x4 (ix2 x c0)) * cv (ix2 r l)
      + Scalar.select (mk (ix2 0 l)) (∑ x, hv (ix2 r x) * x4 (ix2 x c1)) (∑ x, hv (ix2 r x) * x4 (ix2 x c2)) * sv (ix2 r l)
      = rot (fun k => hv (ix2 r k)) (fun d n => x4 (ix2 d n)) (fun l => cv (ix2 r l)) (fun l => sv (ix2 r l)) n := by
  obtain rfl : c0 = n := Fin.ext h0
  have e : (⟨c0.val % 128, by omega⟩ : Fin 128) = l := Fin.ext hl
  have e' : c0.val % 64 = l.val % 64 := by omega
  rw [hk, rot, e, e']
  by_cases hh : l.val % 64 < 32
  · rw [if_pos hh, if_pos hh, show c1 = ⟨(c0.val + 32) % 7552, by omega⟩ from Fin.ext (by show c1.val = (c0.val + 32) % 7552; omega)]
    rw [show ∀ a b : EReal, Scalar.select 1#1 a b = a from fun _ _ => rfl]; rfl
  · rw [if_neg hh, if_neg hh, show c2 = ⟨c0.val - 32, by omega⟩ from Fin.ext (by show c2.val = c0.val - 32; omega)]
    rw [show ∀ a b : EReal, Scalar.select 0#1 a b = b from fun _ _ => rfl]; rfl

set_option maxHeartbeats 4000000 in
/-- The kernel's block of the projection, column by column. -/
theorem out_apply (x0 : Vec Ideal S512x1024 .f32) (x1 : Vec Ideal S512x1 .i32) (x2 : Vec Ideal S1x1024 .f32) (x3 : Vec Ideal S1x128 .f32) (x4 : Vec Ideal S1024x7552 .bf16) (r : Fin 512) (n : Fin 7552) :
    out0_5 x0 x1 x2 x3 x4 (ix2 r n) = colOut (fun k => k0_pay95 x0 x1 x2 x3 x4 (ix2 r k)) (fun d n => x4 (ix2 d n))
      (fun l => k0_pay96 x0 x1 x2 x3 x4 (ix2 r l)) (fun l => k0_pay102 x0 x1 x2 x3 x4 (ix2 r l)) n := by
  have hk := mask_apply x0 x1 x2 x3 x4
  unfold out0_5
  canon_tiles x h
  all_goals (
    obtain ⟨a, l, rfl⟩ : ∃ (a : Fin 512) (b : Fin 128), x = ix2 a b := ⟨x 0, x 1, eq_ix2 x⟩
    change r.val = a.val at h0
    obtain rfl : r = a := Fin.ext h0
    simp only [ix2_1] at h1
    clear h0 x0_lt x1_lt
    have hl : l.val < 128 := l.isLt)
  case piece2 =>
    pointwise [k0_pay2, k0_pay1, k0_pay117, k0_pay116, k0_pay94]
    rw [colOut, if_neg (by omega), if_pos (by omega)]
    refine close_rot _ _ _ _ _ hk r l n _ _ _ ?_ ?_ ?_ ?_ ?_ <;> (try dsimp only) <;> omega
  case piece51 | piece52 | piece53 | piece54 | piece55 | piece56 =>
    pointwise [k0_pay14, k0_pay17, k0_pay18, k0_pay19, k0_pay20, k0_pay21, k0_pay22, k0_pay23, k0_pay24, k0_pay25, k0_pay26, k0_pay27, k0_pay103]
    rw [colOut, if_pos (by omega)]
    congr 1
    refine close_rot _ _ _ _ _ hk r l n _ _ _ ?_ ?_ ?_ ?_ ?_ <;> (try dsimp only) <;> omega
  case piece57 | piece58 =>
    pointwise [k0_pay15, k0_pay16, k0_pay14]
    rw [colOut, if_pos (by omega)]
    congr 1
    refine close_rot _ _ _ _ _ hk r l n _ _ _ ?_ ?_ ?_ ?_ ?_ <;> (try dsimp only) <;> omega
  all_goals (
    pointwise [k0_pay1, k0_pay2, k0_pay3, k0_pay4, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay103, k0_pay104, k0_pay105, k0_pay106, k0_pay107, k0_pay108, k0_pay109, k0_pay110, k0_pay111, k0_pay112, k0_pay113, k0_pay114, k0_pay115, k0_pay116, k0_pay117]
    refine close_lin _ _ _ _ r n _ ?_ ?_ <;> (try dsimp only) <;> omega)

end Cert.KProjIdeal.Value
-- ==== Proof.ProjWeights.lean ====
/- The operands of the input projection as the kernel is given them. -/
module

public import proofs.«01_k».proof.Defs
public import proofs.«01_k».proof.Proof.ProjValue
public import proofs.«01_k».proof.Proof.Gen.RProjIdeal.Run
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 200000

noncomputable section

open Idealize.ShloMosaic Idealize.ShloMosaic.TcCoe Idealize.SL.Sem
open Idealize.ShloMosaic.Pipeline (Dat)

namespace Cert.KProjIdeal.Value
open Cert.KProjIdeal Cert.KProjIdeal.Gen

variable (m : (ℓ : Loc nD τ sig) → Buf (Elt Ideal) ℓ)

/-- The columns of the projection in the order in which they are kept: the query heads `z`, then the columns `f` as
the weights list them, the key heads `g` among them, then zeros. -/
def ladder (z : Fin 1024 → EReal) (f : Fin 7440 → EReal) (g : Fin 128 → EReal) (n : Fin 7552) : EReal :=
  if h : n.val < 1024 then z ⟨n.val, h⟩
  else if h : n.val - 1024 < 1024 then f ⟨1280 + (n.val - 1024), by omega⟩
  else if h : n.val - 1024 - 1024 < 1024 then f ⟨3328 + (n.val - 1024 - 1024), by omega⟩
  else if h : n.val - 1024 - 1024 - 1024 < 1024 then f ⟨4352 + (n.val - 1024 - 1024 - 1024), by omega⟩
  else if h : n.val - 1024 - 1024 - 1024 - 1024 < 1024 then f ⟨5392 + (n.val - 1024 - 1024 - 1024 - 1024), by omega⟩
  else if h : n.val - 1024 - 1024 - 1024 - 1024 - 1024 < 1024 then f ⟨6416 + (n.val - 1024 - 1024 - 1024 - 1024 - 1024), by omega⟩
  else if h : n.val - 1024 - 1024 - 1024 - 1024 - 1024 - 1024 < 512 then f ⟨2304 + (n.val - 1024 - 1024 - 1024 - 1024 - 1024 - 1024), by omega⟩
  else if h : n.val - 1024 - 1024 - 1024 - 1024 - 1024 - 1024 - 512 < 512 then f ⟨2816 + (n.val - 1024 - 1024 - 1024 - 1024 - 1024 - 1024 - 512), by omega⟩
  else if h : n.val - 1024 - 1024 - 1024 - 1024 - 1024 - 1024 - 512 - 512 < 128 then g ⟨n.val - 1024 - 1024 - 1024 - 1024 - 1024 - 1024 - 512 - 512, h⟩
  else if h : n.val - 1024 - 1024 - 1024 - 1024 - 1024 - 1024 - 512 - 512 - 128 < 128 then f ⟨1152 + (n.val - 1024 - 1024 - 1024 - 1024 - 1024 - 1024 - 512 - 512 - 128), by omega⟩
  else if h : n.val - 1024 - 1024 - 1024 - 1024 - 1024 - 1024 - 512 - 512 - 128 - 128 < 16 then f ⟨5376 + (n.val - 1024 - 1024 - 1024 - 1024 - 1024 - 1024 - 512 - 512 - 128 - 128), by omega⟩
  else 0

set_option maxHeartbeats 4000000 in
/-- Twelve pieces side by side, read at an index. -/
theorem cat_apply (u0 : FVec Ideal S1024x1024 .f32) (u1 : FVec Ideal S1024x1024 .f32) (u2 : FVec Ideal S1024x1024 .f32) (u3 : FVec Ideal S1024x1024 .f32) (u4 : FVec Ideal S1024x1024 .f32) (u5 : FVec Ideal S1024x1024 .f32) (u6 : FVec Ideal S1024x512 .f32) (u7 : FVec Ideal S1024x512 .f32) (u8 : FVec Ideal S1024x128 .f32) (u9 : FVec Ideal S1024x128 .f32) (u10 : FVec Ideal S1024x16 .f32) (u11 : FVec Ideal S1024x112 .f32) (d : Fin 1024) (n : Fin 7552) :
    concatenate S1024x7552 1 [⟨S1024x1024, u0⟩, ⟨S1024x1024, u1⟩, ⟨S1024x1024, u2⟩, ⟨S1024x1024, u3⟩, ⟨S1024x1024, u4⟩, ⟨S1024x1024, u5⟩, ⟨S1024x512, u6⟩, ⟨S1024x512, u7⟩, ⟨S1024x128, u8⟩, ⟨S1024x128, u9⟩, ⟨S1024x16, u10⟩, ⟨S1024x112, u11⟩] concatenates_S1024x1024_S1024x1024_S1024x1024_S1024x1024_S1024x1024_S1024x1024_S1024x512_S1024x512_S1024x128_S1024x128_S1024x16_S1024x112_S1024x7552_d1 (ix2 d n) = if h : n.val < 1024 then u0 (ix2 d ⟨n.val, h⟩) else if h : n.val - 1024 < 1024 then u1 (ix2 d ⟨n.val - 1024, h⟩) else if h : n.val - 1024 - 1024 < 1024 then u2 (ix2 d ⟨n.val - 1024 - 1024, h⟩) else if h : n.val - 1024 - 1024 - 1024 < 1024 then u3 (ix2 d ⟨n.val - 1024 - 1024 - 1024, h⟩) else if h : n.val - 1024 - 1024 - 1024 - 1024 < 1024 then u4 (ix2 d ⟨n.val - 1024 - 1024 - 1024 - 1024, h⟩) else if h : n.val - 1024 - 1024 - 1024 - 1024 - 1024 < 1024 then u5 (ix2 d ⟨n.val - 1024 - 1024 - 1024 - 1024 - 1024, h⟩) else if h : n.val - 1024 - 1024 - 1024 - 1024 - 1024 - 1024 < 512 then u6 (ix2 d ⟨n.val - 1024 - 1024 - 1024 - 1024 - 1024 - 1024, h⟩) else if h : n.val - 1024 - 1024 - 1024 - 1024 - 1024 - 1024 - 512 < 512 then u7 (ix2 d ⟨n.val - 1024 - 1024 - 1024 - 1024 - 1024 - 1024 - 512, h⟩) else if h : n.val - 1024 - 1024 - 1024 - 1024 - 1024 - 1024 - 512 - 512 < 128 then u8 (ix2 d ⟨n.val - 1024 - 1024 - 1024 - 1024 - 1024 - 1024 - 512 - 512, h⟩) else if h : n.val - 1024 - 1024 - 1024 - 1024 - 1024 - 1024 - 512 - 512 - 128 < 128 then u9 (ix2 d ⟨n.val - 1024 - 1024 - 1024 - 1024 - 1024 - 1024 - 512 - 512 - 128, h⟩) else if h : n.val - 1024 - 1024 - 1024 - 1024 - 1024 - 1024 - 512 - 512 - 128 - 128 < 16 then u10 (ix2 d ⟨n.val - 1024 - 1024 - 1024 - 1024 - 1024 - 1024 - 512 - 512 - 128 - 128, h⟩) else u11 (ix2 d ⟨n.val - 1024 - 1024 - 1024 - 1024 - 1024 - 1024 - 512 - 512 - 128 - 128 - 16, by omega⟩) := by
  pointwise

set_option maxHeartbeats 8000000 in
/-- The weights as the kernel is given them. -/
theorem weights_apply (c : Dev nD) (w : FVec Ideal S1x1024x7440 .f32) (h : m (c, Proc.tc.devRef main_arg3) = w) (d : Fin 1024) (n : Fin 7552) :
    V m c main_v25 (ix2 d n) = ladder (fun n => w (ix3 0 d ⟨n.val, by omega⟩)) (fun k => w (ix3 0 d k))
      (fun l => w (ix3 0 d ⟨1024 + l.val, by omega⟩)) n := by
  have p12 : ∀ (n : Fin 1024), StableHlo.upto hostOps0 (fun b => m (c, b)) 27 (Proc.tc.devRef main_v12) (ix2 d n) = w (ix3 0 d ⟨n.val, by omega⟩) := by
    intro n; after_reads_simp; rw [h]; pointwise
  have p15 : ∀ (n : Fin 1024), StableHlo.upto hostOps0 (fun b => m (c, b)) 27 (Proc.tc.devRef main_v15) (ix2 d n) = w (ix3 0 d ⟨1280 + n.val, by omega⟩) := by
    intro n; after_reads_simp; rw [h]; pointwise
  have p18 : ∀ (n : Fin 1024), StableHlo.upto hostOps0 (fun b => m (c, b)) 27 (Proc.tc.devRef main_v18) (ix2 d n) = w (ix3 0 d ⟨3328 + n.val, by omega⟩) := by
    intro n; after_reads_simp; rw [h]; pointwise
  have p19 : ∀ (n : Fin 1024), StableHlo.upto hostOps0 (fun b => m (c, b)) 27 (Proc.tc.devRef main_v19) (ix2 d n) = w (ix3 0 d ⟨4352 + n.val, by omega⟩) := by
    intro n; after_reads_simp; rw [h]; pointwise
  have p21 : ∀ (n : Fin 1024), StableHlo.upto hostOps0 (fun b => m (c, b)) 27 (Proc.tc.devRef main_v21) (ix2 d n) = w (ix3 0 d ⟨5392 + n.val, by omega⟩) := by
    intro n; after_reads_simp; rw [h]; pointwise
  have p22 : ∀ (n : Fin 1024), StableHlo.upto hostOps0 (fun b => m (c, b)) 27 (Proc.tc.devRef main_v22) (ix2 d n) = w (ix3 0 d ⟨6416 + n.val, by omega⟩) := by
    intro n; after_reads_simp; rw [h]; pointwise
  have p16 : ∀ (n : Fin 512), StableHlo.upto hostOps0 (fun b => m (c, b)) 27 (Proc.tc.devRef main_v16) (ix2 d n) = w (ix3 0 d ⟨2304 + n.val, by omega⟩) := by
    intro n; after_reads_simp; rw [h]; pointwise
  have p17 : ∀ (n : Fin 512), StableHlo.upto hostOps0 (fun b => m (c, b)) 27 (Proc.tc.devRef main_v17) (ix2 d n) = w (ix3 0 d ⟨2816 + n.val, by omega⟩) := by
    intro n; after_reads_simp; rw [h]; pointwise
  have p13 : ∀ (n : Fin 128), StableHlo.upto hostOps0 (fun b => m (c, b)) 27 (Proc.tc.devRef main_v13) (ix2 d n) = w (ix3 0 d ⟨1024 + n.val, by omega⟩) := by
    intro n; after_reads_simp; rw [h]; pointwise
  have p14 : ∀ (n : Fin 128), StableHlo.upto hostOps0 (fun b => m (c, b)) 27 (Proc.tc.devRef main_v14) (ix2 d n) = w (ix3 0 d ⟨1152 + n.val, by omega⟩) := by
    intro n; after_reads_simp; rw [h]; pointwise
  have p20 : ∀ (n : Fin 16), StableHlo.upto hostOps0 (fun b => m (c, b)) 27 (Proc.tc.devRef main_v20) (ix2 d n) = w (ix3 0 d ⟨5376 + n.val, by omega⟩) := by
    intro n; after_reads_simp; rw [h]; pointwise
  have p23 : ∀ (n : Fin 112), StableHlo.upto hostOps0 (fun b => m (c, b)) 27 (Proc.tc.devRef main_v23) (ix2 d n) = (0 : EReal) := by
    intro n; after_reads_simp; pointwise
  unfold V
  after_reads_simp
  refine (cat_apply _ _ _ _ _ _ _ _ _ _ _ _ d n).trans ?_
  dsimp only [Matrix.cons_val]
  simp only [p12, p15, p18, p19, p21, p22, p16, p17, p13, p14, p20, p23]
  rfl

end Cert.KProjIdeal.Value
-- ==== Proof.ProjBlocks.lean ====
/- The blocks of the input projection and the array it leaves. -/
module

public import proofs.«01_k».proof.Defs
public import proofs.«01_k».proof.Proof.ProjValue
public import proofs.«01_k».proof.Proof.ProjWeights
public import proofs.«01_k».proof.Proof.Gen.RProjIdeal.Run
public import Idealize.ShloMosaic.Lib.Pipeline.ValueKit
public import Idealize.ShloMosaic.Lib.Pointwise
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KProjIdeal.Value
open Cert.KProjIdeal Cert.KProjIdeal.Gen

variable (m : (ℓ : Loc nD τ sig) → Buf (Elt Ideal) ℓ)

/-! ## One row -/

/-- A row over its root mean square, times the norm's weight. -/
def normRow (x nw : Fin 1024 → EReal) (d : Fin 1024) : EReal :=
  x d * Ideal.rsqrt (Ideal.div (∑ k, x k * x k) (Ideal.ofBits FTy.f32 1149239296#32) + Ideal.ofBits FTy.f32 925353388#32) * nw d

/-- The angle by which the position `p` turns the lane `l` of a pair. -/
def phase (p : BitVec 32) (l : ℕ) : EReal :=
  FloatOps.sitofp (F := Ideal) FTy.f32 p * Ideal.pow (Ideal.ofBits FTy.f32 1176256512#32)
    (Ideal.div (-FloatOps.sitofp (F := Ideal) FTy.f32 (BitVec.ofNat 32 l)) (Ideal.ofBits FTy.f32 1107296256#32))

/-- The angles of a position. -/
def phaseRow (p : BitVec 32) (l : Fin 32) : EReal := phase p l.val

/-- The cosines over the 128 lanes. -/
def cosRow (A : Fin 32 → EReal) (l : Fin 128) : EReal := Ideal.cos (A ⟨l.val % 32, by omega⟩)

/-- The sines over the 128 lanes, negated in the first half of a head. -/
def sinRow (A : Fin 32 → EReal) (l : Fin 128) : EReal :=
  if l.val % 64 < 32 then 0 - Ideal.sin (A ⟨l.val % 32, by omega⟩) else Ideal.sin (A ⟨l.val % 32, by omega⟩)

/-- The column `n` of the weights as they are kept, row `d`. -/
def kept (u : Fin 1024 → Fin 7440 → EReal) (d : Fin 1024) (n : Fin 7552) : EReal :=
  ladder (fun n => u d ⟨n.val, by omega⟩) (u d) (fun l => u d ⟨1024 + l.val, by omega⟩) n

/-- One rotated column, `o` being where its head's projection starts. -/
def turn (P : Fin 7440 → EReal) (A : Fin 32 → EReal) (o : ℕ) (n : ℕ) (ho : o + n < 7440 - 64) : EReal :=
  if h : n % 64 < 32 then
    P ⟨o + (n / 64 * 64 + n % 64), by omega⟩ * Ideal.cos (A ⟨n % 64, h⟩) - P ⟨o + (n / 64 * 64 + (32 + n % 64)), by omega⟩ * Ideal.sin (A ⟨n % 64, h⟩)
  else
    P ⟨o + (n / 64 * 64 + (32 + (n % 64 - 32))), by omega⟩ * Ideal.cos (A ⟨n % 64 - 32, by omega⟩)
      + P ⟨o + (n / 64 * 64 + (n % 64 - 32)), by omega⟩ * Ideal.sin (A ⟨n % 64 - 32, by omega⟩)

/-- A row of the projection, at a column as the weights list them. -/
def full (h : Fin 1024 → EReal) (u : Fin 1024 → Fin 7440 → EReal) (k : Fin 7440) : EReal := ∑ d, h d * u d k

variable (h : Fin 1024 → EReal) (u : Fin 1024 → Fin 7440 → EReal) (A : Fin 32 → EReal)

theorem lin_query (n : Fin 7552) (hn : n.val < 1024) : lin h (kept u) n = full h u ⟨n.val, by omega⟩ := by
  unfold lin kept ladder full
  simp only [dif_pos hn]

theorem lin_key (n : Fin 7552) (l : ℕ) (hn : n.val = 7168 + l) (hl : l < 128) : lin h (kept u) n = full h u ⟨1024 + l, by omega⟩ := by
  unfold lin kept ladder full
  refine Finset.sum_congr rfl fun d _ => ?_
  rw [dif_neg (by omega), dif_neg (by omega), dif_neg (by omega), dif_neg (by omega), dif_neg (by omega), dif_neg (by omega), dif_neg (by omega),
    dif_neg (by omega), dif_pos (by omega)]
  exact congrArg (fun k => h d * u d k) (Fin.ext (by dsimp only; omega))

set_option maxHeartbeats 2000000 in
/-- A row times the columns as they are kept. -/
theorem sum_ladder (z : Fin 1024 → Fin 1024 → EReal) (g : Fin 1024 → Fin 128 → EReal) (n : Fin 7552) :
    ∑ d, h d * ladder (z d) (u d) (g d) n = ladder (fun k => ∑ d, h d * z d k) (full h u) (fun k => ∑ d, h d * g d k) n := by
  unfold ladder full
  by_cases h0 : n.val < 1024
  · simp only [dif_pos h0]
  simp only [dif_neg h0]
  by_cases h1 : n.val - 1024 < 1024
  · simp only [dif_pos h1]
  simp only [dif_neg h1]
  by_cases h2 : n.val - 1024 - 1024 < 1024
  · simp only [dif_pos h2]
  simp only [dif_neg h2]
  by_cases h3 : n.val - 1024 - 1024 - 1024 < 1024
  · simp only [dif_pos h3]
  simp only [dif_neg h3]
  by_cases h4 : n.val - 1024 - 1024 - 1024 - 1024 < 1024
  · simp only [dif_pos h4]
  simp only [dif_neg h4]
  by_cases h5 : n.val - 1024 - 1024 - 1024 - 1024 - 1024 < 1024
  · simp only [dif_pos h5]
  simp only [dif_neg h5]
  by_cases h6 : n.val - 1024 - 1024 - 1024 - 1024 - 1024 - 1024 < 512
  · simp only [dif_pos h6]
  simp only [dif_neg h6]
  by_cases h7 : n.val - 1024 - 1024 - 1024 - 1024 - 1024 - 1024 - 512 < 512
  · simp only [dif_pos h7]
  simp only [dif_neg h7]
  by_cases h8 : n.val - 1024 - 1024 - 1024 - 1024 - 1024 - 1024 - 512 - 512 < 128
  · simp only [dif_pos h8]
  simp only [dif_neg h8]
  by_cases h9 : n.val - 1024 - 1024 - 1024 - 1024 - 1024 - 1024 - 512 - 512 - 128 < 128
  · simp only [dif_pos h9]
  simp only [dif_neg h9]
  by_cases h10 : n.val - 1024 - 1024 - 1024 - 1024 - 1024 - 1024 - 512 - 512 - 128 - 128 < 16
  · simp only [dif_pos h10]
  simp only [dif_neg h10]
  simp only [mul_zero, Finset.sum_const_zero]

theorem ladder_other (z z' : Fin 1024 → EReal) (f : Fin 7440 → EReal) (g g' : Fin 128 → EReal) (n : Fin 7552) (h1 : ¬n.val < 1024) (h2 : ¬(7168 ≤ n.val ∧ n.val < 7296)) :
    ladder z f g n = ladder z' f g' n := by
  have hg : ¬n.val - 1024 < 1024 → ¬n.val - 1024 - 1024 < 1024 → ¬n.val - 1024 - 1024 - 1024 < 1024 → ¬n.val - 1024 - 1024 - 1024 - 1024 < 1024 →
      ¬n.val - 1024 - 1024 - 1024 - 1024 - 1024 < 1024 → ¬n.val - 1024 - 1024 - 1024 - 1024 - 1024 - 1024 < 512 →
      ¬n.val - 1024 - 1024 - 1024 - 1024 - 1024 - 1024 - 512 < 512 → ¬n.val - 1024 - 1024 - 1024 - 1024 - 1024 - 1024 - 512 - 512 < 128 := by omega
  unfold ladder
  rw [dif_neg h1, dif_neg h1]
  refine dite_congr rfl (fun _ => rfl) fun a1 => ?_
  refine dite_congr rfl (fun _ => rfl) fun a2 => ?_
  refine dite_congr rfl (fun _ => rfl) fun a3 => ?_
  refine dite_congr rfl (fun _ => rfl) fun a4 => ?_
  refine dite_congr rfl (fun _ => rfl) fun a5 => ?_
  refine dite_congr rfl (fun _ => rfl) fun a6 => ?_
  refine dite_congr rfl (fun _ => rfl) fun a7 => ?_
  rw [dif_neg (hg a1 a2 a3 a4 a5 a6 a7), dif_neg (hg a1 a2 a3 a4 a5 a6 a7)]

theorem lin_other (z : Fin 1024 → EReal) (g : Fin 128 → EReal) (n : Fin 7552) (h1 : ¬n.val < 1024) (h2 : ¬(7168 ≤ n.val ∧ n.val < 7296)) :
    lin h (kept u) n = ladder z (full h u) g n :=
  (sum_ladder h u _ _ n).trans (ladder_other _ _ _ _ _ n h1 h2)

/-- A rotated column, in the reference's halves. -/
theorem rot_turn (o j : ℕ) (ho : o + j < 7440 - 64) (n : Fin 7552) (hj : n.val % 128 = j % 128)
    (hlin : ∀ (n' : Fin 7552) (i : ℕ) (hi : i / 64 = j / 64), n'.val + j = n.val + i → lin h (kept u) n' = full h u ⟨o + i, by omega⟩) (hn : n.val < 7500) :
    rot h (kept u) (cosRow A) (sinRow A) n = turn (full h u) A o j ho := by
  have e64 : n.val % 64 = j % 64 := by omega
  unfold rot turn
  rw [hlin n j rfl rfl]
  by_cases hh : j % 64 < 32
  · rw [if_pos (by omega), dif_pos hh, hlin ⟨(n.val + 32) % 7552, by omega⟩ (j + 32) (by omega) (by show (n.val + 32) % 7552 + j = _; omega)]
    unfold cosRow sinRow
    rw [if_pos (by show n.val % 128 % 64 < 32; omega)]
    have e1 : (⟨n.val % 128 % 32, by omega⟩ : Fin 32) = ⟨j % 64, hh⟩ := Fin.ext (by show n.val % 128 % 32 = j % 64; omega)
    have e2 : (⟨o + j, by omega⟩ : Fin 7440) = ⟨o + (j / 64 * 64 + j % 64), by omega⟩ := Fin.ext (by show o + j = o + (j / 64 * 64 + j % 64); omega)
    have e3 : (⟨o + (j + 32), by omega⟩ : Fin 7440) = ⟨o + (j / 64 * 64 + (32 + j % 64)), by omega⟩ := Fin.ext (by show o + (j + 32) = o + (j / 64 * 64 + (32 + j % 64)); omega)
    show full h u ⟨o + j, _⟩ * Ideal.cos (A ⟨n.val % 128 % 32, _⟩) + full h u ⟨o + (j + 32), _⟩ * (0 - Ideal.sin (A ⟨n.val % 128 % 32, _⟩)) = _
    rw [e1, e2, e3, zero_sub, mul_neg, ← sub_eq_add_neg]
  · rw [if_neg (by omega), dif_neg hh, hlin ⟨n.val - 32, by omega⟩ (j - 32) (by omega) (by show n.val - 32 + j = _; omega)]
    unfold cosRow sinRow
    rw [if_neg (by show ¬n.val % 128 % 64 < 32; omega)]
    have e1 : (⟨n.val % 128 % 32, by omega⟩ : Fin 32) = ⟨j % 64 - 32, by omega⟩ := Fin.ext (by show n.val % 128 % 32 = j % 64 - 32; omega)
    have e2 : (⟨o + j, by omega⟩ : Fin 7440) = ⟨o + (j / 64 * 64 + (32 + (j % 64 - 32))), by omega⟩ := Fin.ext (by show o + j = o + (j / 64 * 64 + (32 + (j % 64 - 32))); omega)
    have e3 : (⟨o + (j - 32), by omega⟩ : Fin 7440) = ⟨o + (j / 64 * 64 + (j % 64 - 32)), by omega⟩ := Fin.ext (by show o + (j - 32) = o + (j / 64 * 64 + (j % 64 - 32)); omega)
    show full h u ⟨o + j, _⟩ * Ideal.cos (A ⟨n.val % 128 % 32, _⟩) + full h u ⟨o + (j - 32), _⟩ * Ideal.sin (A ⟨n.val % 128 % 32, _⟩) = _
    rw [e1, e2, e3]

/-- The kernel's columns are the reference's pieces in their order. -/
theorem colOut_ladder (n : Fin 7552) :
    colOut h (kept u) (cosRow A) (sinRow A) n = ladder (fun n => turn (full h u) A 0 n.val (by omega) * Ideal.ofBits FTy.f32 1040187392#32) (full h u)
      (fun n => turn (full h u) A 1024 n.val (by omega)) n := by
  unfold colOut
  split_ifs with h1 h2
  · rw [rot_turn h u A 0 n.val (by omega) n rfl (fun n' i hi e => by
      rw [lin_query h u n' (by omega)]; congr 2; omega) (by omega)]
    unfold ladder
    rw [dif_pos h1]
  · rw [rot_turn h u A 1024 (n.val - 7168) (by omega) n (by omega) (fun n' i hi e => by
      exact lin_key h u n' i (by omega) (by omega)) (by omega)]
    unfold ladder
    rw [dif_neg (by omega), dif_neg (by omega), dif_neg (by omega), dif_neg (by omega), dif_neg (by omega), dif_neg (by omega), dif_neg (by omega),
      dif_neg (by omega), dif_pos (by omega)]
    have e : ∀ (j : ℕ) (hj : 1024 + j < 7440 - 64), n.val - 7168 = j → turn (full h u) A 1024 (n.val - 7168) (by omega) = turn (full h u) A 1024 j hj := by
      rintro _ _ rfl; rfl
    refine e _ _ ?_
    show n.val - 7168 = n.val - 1024 - 1024 - 1024 - 1024 - 1024 - 1024 - 512 - 512
    omega
  · exact lin_other h u _ _ n h1 h2

/-! ## The kernel's blocks -/

section
variable (x0 : Vec Ideal S512x1024 .f32) (x1 : Vec Ideal S512x1 .i32) (x2 : Vec Ideal S1x1024 .f32) (x3 : Vec Ideal S1x128 .f32) (x4 : Vec Ideal S1024x7552 .bf16) (r : Fin 512)

theorem norm_apply (k : Fin 1024) : k0_pay95 x0 x1 x2 x3 x4 (ix2 r k) = normRow (fun k => x0 (ix2 r k)) (fun k => x2 (ix2 0 k)) k := by
  pointwise [k0_pay95, k0_pay5]
  rfl

theorem cos_apply (A : Fin 32 → EReal) (hA : ∀ l : Fin 128, FloatOps.sitofp (F := Ideal) FTy.f32 (x1 (ix2 r 0)) * x3 (ix2 0 l) = A ⟨l.val % 32, by omega⟩) (l : Fin 128) :
    k0_pay96 x0 x1 x2 x3 x4 (ix2 r l) = cosRow A l := by
  pointwise [k0_pay96, k0_pay7, k0_pay6]
  exact congrArg Ideal.cos (hA l)

theorem sin_apply (A : Fin 32 → EReal) (hA : ∀ l : Fin 128, FloatOps.sitofp (F := Ideal) FTy.f32 (x1 (ix2 r 0)) * x3 (ix2 0 l) = A ⟨l.val % 32, by omega⟩) (l : Fin 128) :
    k0_pay102 x0 x1 x2 x3 x4 (ix2 r l) = sinRow A l := by
  have hk : k0_pay12 (k0_pay98 x0 x1 x2 x3 x4) (k0_pay99 x0 x1 x2 x3 x4) (k0_pay100 x0 x1 x2 x3 x4) (ix2 0 l) = _ := mask_apply x0 x1 x2 x3 x4 l
  pointwise [k0_pay102, k0_pay13, k0_pay97, k0_pay8, k0_pay6]
  rw [hk]
  unfold sinRow
  have e := congrArg Ideal.sin (hA l)
  by_cases hh : l.val % 64 < 32
  · rw [if_pos hh, if_pos hh, show ∀ a b : EReal, Scalar.select 1#1 a b = a from fun _ _ => rfl]
    exact congrArg (fun v => (0 : EReal) - v) e
  · rw [if_neg hh, if_neg hh, show ∀ a b : EReal, Scalar.select 0#1 a b = b from fun _ _ => rfl]
    exact e

end

/-- The blocks the grid's points read and write. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ t.val < 32 :=
  (by decide +kernel : ∀ t : Fin grid0.N, _)

theorem blk0 (c : Dev nD) (t : Fin cfg0.N) (r : Fin 512) (k : Fin 1024) (ht : t.val < 32) :
    iblk m c 0 t (ix2 r k) = m ((c : Thread nD τ).loc main_arg0) (ix3 ⟨(t.val * 512 + r.val) / 2048, by omega⟩ ⟨(t.val * 512 + r.val) % 2048, by omega⟩ k) := by
  have hi := (idx t).1
  have e : ((cfg0.win 0).blk t).view.emb (ix2 r k) = ix2 (⟨t.val * 512 + r.val, by omega⟩ : Fin 16384) k := by
    blk_ext [hi]
  show V m c main_v26 (((cfg0.win 0).blk t).view.emb (ix2 r k)) = _
  rw [e]
  entry_read
  pointwise

theorem blk1 (c : Dev nD) (t : Fin cfg0.N) (r : Fin 512) (ht : t.val < 32) :
    iblk m c 1 t (ix2 r 0) = m ((c : Thread nD τ).loc main_arg1) (ix2 ⟨(t.val * 512 + r.val) / 2048, by omega⟩ ⟨(t.val * 512 + r.val) % 2048, by omega⟩) := by
  have hi := (idx t).2.1
  have e : ((cfg0.win 1).blk t).view.emb (ix2 r (0 : Fin 1)) = ix2 (⟨t.val * 512 + r.val, by omega⟩ : Fin 16384) (0 : Fin 1) := by
    blk_ext [hi]
  show V m c main_v10 (((cfg0.win 1).blk t).view.emb (ix2 r (0 : Fin 1))) = _
  rw [e]
  entry_read
  pointwise

theorem blk2 (c : Dev nD) (t : Fin cfg0.N) (k : Fin 1024) :
    iblk m c 2 t (ix2 0 k) = m ((c : Thread nD τ).loc main_arg2) (ix2 0 k) := by
  have hi := (idx t).2.2.1
  have e : ((cfg0.win 2).blk t).view.emb (ix2 (0 : Fin 1) k) = ix2 (0 : Fin 1) k := by
    blk_ext [hi]
  show V m c main_v28 (((cfg0.win 2).blk t).view.emb (ix2 (0 : Fin 1) k)) = _
  rw [e]
  entry_read
  pointwise

theorem blk3 (c : Dev nD) (t : Fin cfg0.N) (l : Fin 128) :
    iblk m c 3 t (ix2 0 l) = Ideal.pow (Ideal.ofBits FTy.f32 1176256512#32)
      (Ideal.div (-FloatOps.sitofp (F := Ideal) FTy.f32 (BitVec.ofNat 32 (l.val % 32))) (Ideal.ofBits FTy.f32 1107296256#32)) := by
  have hi := (idx t).2.2.2.1
  have e : ((cfg0.win 3).blk t).view.emb (ix2 (0 : Fin 1) l) = ix2 (0 : Fin 1) l := by
    blk_ext [hi]
  show V m c main_v9 (((cfg0.win 3).blk t).view.emb (ix2 (0 : Fin 1) l)) = _
  rw [e]
  entry_read
  pointwise

theorem blk4 (c : Dev nD) (t : Fin cfg0.N) (d : Fin 1024) (n : Fin 7552) :
    iblk m c 4 t (ix2 d n) = kept (fun d n => m ((c : Thread nD τ).loc main_arg3) (ix3 0 d n)) d n := by
  have hi := (idx t).2.2.2.2.1
  have e : ((cfg0.win 4).blk t).view.emb (ix2 d n) = ix2 d n := by
    blk_ext [hi]
  show V m c main_v25 (((cfg0.win 4).blk t).view.emb (ix2 d n)) = _
  rw [e]
  exact weights_apply m c _ rfl d n

theorem final (c : Dev nD) (W : Buf (Elt Ideal) ((c : Thread nD τ).loc main_v29))
    (hW : ∀ (r : Fin 16384) (n : Fin 7552), W (ix2 r n) = colOut
      (normRow (fun k => m ((c : Thread nD τ).loc main_arg0) (ix3 ⟨r.val / 2048, by omega⟩ ⟨r.val % 2048, by omega⟩ k)) (fun k => m ((c : Thread nD τ).loc main_arg2) (ix2 0 k)))
      (kept (fun d n => m ((c : Thread nD τ).loc main_arg3) (ix3 0 d n)))
      (cosRow (phaseRow (m ((c : Thread nD τ).loc main_arg1) (ix2 ⟨r.val / 2048, by omega⟩ ⟨r.val % 2048, by omega⟩))))
      (sinRow (phaseRow (m ((c : Thread nD τ).loc main_arg1) (ix2 ⟨r.val / 2048, by omega⟩ ⟨r.val % 2048, by omega⟩)))) n) :
    (dats m 0 c).arrAt 5 (cfgs 0).N = W := by
  refine (dats m 0 c).arrAt_eq_of_covers 5 _ (by decide +kernel) fun t _ y => ?_
  obtain ⟨r, n, rfl⟩ : ∃ (a : Fin 512) (b : Fin 7552), y = ix2 a b := ⟨y 0, y 1, eq_ix2 y⟩
  have hi := (idx t).2.2.2.2.2.1
  have ht := (idx t).2.2.2.2.2.2
  have e : ((cfg0.win 5).blk t).view.emb (ix2 r n) = ix2 (⟨t.val * 512 + r.val, by omega⟩ : Fin 16384) n := by
    blk_ext [hi]
  rw [e, hW]
  blk_simp
  rw [after0_5, out_apply]
  have hA : ∀ l : Fin 128, FloatOps.sitofp (F := Ideal) FTy.f32 (iblk m c 1 t (ix2 r 0)) * iblk m c 3 t (ix2 0 l)
      = phaseRow (m ((c : Thread nD τ).loc main_arg1) (ix2 ⟨(t.val * 512 + r.val) / 2048, by omega⟩ ⟨(t.val * 512 + r.val) % 2048, by omega⟩)) ⟨l.val % 32, by omega⟩ := by
    intro l
    rw [blk1 m c t r ht, blk3 m c t l]
    rfl
  have b0 : (fun k => iblk m c 0 t (ix2 r k)) = _ := funext fun k => blk0 m c t r k ht
  have b2 : (fun k => iblk m c 2 t (ix2 0 k)) = _ := funext fun k => blk2 m c t k
  have b4 : (fun d k => iblk m c 4 t (ix2 d k)) = _ := funext fun d => funext fun k => blk4 m c t d k
  have p1 : (fun k => k0_pay95 (iblk m c 0 t) (iblk m c 1 t) (iblk m c 2 t) (iblk m c 3 t) (iblk m c 4 t) (ix2 r k)) = _ := funext fun k => norm_apply _ _ _ _ _ r k
  have p2 : (fun l => k0_pay96 (iblk m c 0 t) (iblk m c 1 t) (iblk m c 2 t) (iblk m c 3 t) (iblk m c 4 t) (ix2 r l)) = _ := funext fun l => cos_apply _ _ _ _ _ r (phaseRow _) hA l
  have p3 : (fun l => k0_pay102 (iblk m c 0 t) (iblk m c 1 t) (iblk m c 2 t) (iblk m c 3 t) (iblk m c 4 t) (ix2 r l)) = _ := funext fun l => sin_apply _ _ _ _ _ r (phaseRow _) hA l
  rw [p1, p2, p3, b0, b2, b4]

end Cert.KProjIdeal.Value
-- ==== Proof.ProjRef.lean ====
/- The input projection of the layer, read at an index. -/
module

public import proofs.«01_k».proof.Defs
public import proofs.«01_k».proof.Proof.ProjBlocks
public import proofs.«01_k».proof.Proof.Gen.RProjIdeal.Run
public import Idealize.ShloMosaic.Lib.Pipeline.ValueKit
public import Idealize.ShloMosaic.Lib.Pointwise
public import Idealize.ShloMosaic.Lib.Tactic.CleanTypes

@[expose] public section

set_option maxRecDepth 200000

noncomputable section

open Idealize.ShloMosaic Idealize.ShloMosaic.TcCoe Idealize.SL.Sem
open Idealize.ShloMosaic.Pipeline (Dat)

namespace Cert.RProjIdeal.Value
open Cert.RProjIdeal Cert.RProjIdeal.Gen
open Cert.KProjIdeal.Value (ladder turn normRow phaseRow phase full kept cosRow sinRow colOut colOut_ladder)

variable (m : (ℓ : Loc nD τ sig) → Buf (Elt Ideal) ℓ)

/-- The projection before its columns are placed. -/
def proj (x : FVec Ideal S8x2048x1024 .f32) (nw : FVec Ideal S1x1024 .f32) (w : FVec Ideal S1x1024x7440 .f32) : FVec Ideal S8x2048x7440 .f32 :=
  Host.dotGeneral dot_S8x2048x1024_S1024x7440_S8x2048x7440_2_0_01_1_n_n none (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 (shapeCast _ nw shapeCasts_S1x1024_S1024)))) (shapeCast _ w shapeCasts_S1x1024x7440_S1024x7440)

/-- The angles of all positions. -/
def angs (ps : IVec S8x2048 32) : FVec Ideal S8x2048x32 .f32 :=
  mulf (broadcastInDim S8x2048x32 ![0, 1, 2] bcast_S8x2048x1_S8x2048x32_0_1_2 (broadcastInDim S8x2048x1 ![0, 1] bcast_S8x2048_S8x2048x1_0_1 (sitofp .f32 ps))) (broadcastInDim S8x2048x32 ![0, 1, 2] bcast_S1x1x32_S8x2048x32_0_1_2 (broadcastInDim S1x1x32 ![2] bcast_S32_S1x1x32_2 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

theorem proj_apply (x : FVec Ideal S8x2048x1024 .f32) (nw : FVec Ideal S1x1024 .f32) (w : FVec Ideal S1x1024x7440 .f32) (b : Fin 8) (t : Fin 2048) (n : Fin 7440) :
    proj x nw w (ix3 b t n) = full (normRow (fun k => x (ix3 b t k)) (fun k => nw (ix2 0 k))) (fun d k => w (ix3 0 d k)) n := by
  pointwise [proj]
  rfl

theorem angs_apply (ps : IVec S8x2048 32) (b : Fin 8) (t : Fin 2048) (l : Fin 32) : angs ps (ix3 b t l) = phaseRow (ps (ix2 b t)) l := by
  pointwise [angs]
  rfl

set_option maxHeartbeats 4000000 in
/-- Twelve pieces side by side, the two leading axes joined, read at an index. -/
theorem joined_apply (u0 : FVec Ideal S8x2048x1024 .f32) (u1 : FVec Ideal S8x2048x1024 .f32) (u2 : FVec Ideal S8x2048x1024 .f32) (u3 : FVec Ideal S8x2048x1024 .f32) (u4 : FVec Ideal S8x2048x1024 .f32) (u5 : FVec Ideal S8x2048x1024 .f32) (u6 : FVec Ideal S8x2048x512 .f32) (u7 : FVec Ideal S8x2048x512 .f32) (u8 : FVec Ideal S8x2048x128 .f32) (u9 : FVec Ideal S8x2048x128 .f32) (u10 : FVec Ideal S8x2048x16 .f32) (u11 : FVec Ideal S8x2048x112 .f32) (r : Fin 16384) (n : Fin 7552) :
    truncf (F := Ideal) .bf16 (shapeCast S16384x7552 (concatenate S8x2048x7552 2 [⟨S8x2048x1024, u0⟩, ⟨S8x2048x1024, u1⟩, ⟨S8x2048x1024, u2⟩, ⟨S8x2048x1024, u3⟩, ⟨S8x2048x1024, u4⟩, ⟨S8x2048x1024, u5⟩, ⟨S8x2048x512, u6⟩, ⟨S8x2048x512, u7⟩, ⟨S8x2048x128, u8⟩, ⟨S8x2048x128, u9⟩, ⟨S8x2048x16, u10⟩, ⟨S8x2048x112, u11⟩] concatenates_S8x2048x1024_S8x2048x1024_S8x2048x1024_S8x2048x1024_S8x2048x1024_S8x2048x1024_S8x2048x512_S8x2048x512_S8x2048x128_S8x2048x128_S8x2048x16_S8x2048x112_S8x2048x7552_d2) shapeCasts_S8x2048x7552_S16384x7552) bitsLt_bf16_f32 (ix2 r n) =
      if h : n.val < 1024 then u0 (ix3 ⟨r.val / 2048, by omega⟩ ⟨r.val % 2048, by omega⟩ ⟨n.val, h⟩)
      else if h : n.val - 1024 < 1024 then u1 (ix3 ⟨r.val / 2048, by omega⟩ ⟨r.val % 2048, by omega⟩ ⟨n.val - 1024, h⟩)
      else if h : n.val - 1024 - 1024 < 1024 then u2 (ix3 ⟨r.val / 2048, by omega⟩ ⟨r.val % 2048, by omega⟩ ⟨n.val - 1024 - 1024, h⟩)
      else if h : n.val - 1024 - 1024 - 1024 < 1024 then u3 (ix3 ⟨r.val / 2048, by omega⟩ ⟨r.val % 2048, by omega⟩ ⟨n.val - 1024 - 1024 - 1024, h⟩)
      else if h : n.val - 1024 - 1024 - 1024 - 1024 < 1024 then u4 (ix3 ⟨r.val / 2048, by omega⟩ ⟨r.val % 2048, by omega⟩ ⟨n.val - 1024 - 1024 - 1024 - 1024, h⟩)
      else if h : n.val - 1024 - 1024 - 1024 - 1024 - 1024 < 1024 then u5 (ix3 ⟨r.val / 2048, by omega⟩ ⟨r.val % 2048, by omega⟩ ⟨n.val - 1024 - 1024 - 1024 - 1024 - 1024, h⟩)
      else if h : n.val - 1024 - 1024 - 1024 - 1024 - 1024 - 1024 < 512 then u6 (ix3 ⟨r.val / 2048, by omega⟩ ⟨r.val % 2048, by omega⟩ ⟨n.val - 1024 - 1024 - 1024 - 1024 - 1024 - 1024, h⟩)
      else if h : n.val - 1024 - 1024 - 1024 - 1024 - 1024 - 1024 - 512 < 512 then u7 (ix3 ⟨r.val / 2048, by omega⟩ ⟨r.val % 2048, by omega⟩ ⟨n.val - 1024 - 1024 - 1024 - 1024 - 1024 - 1024 - 512, h⟩)
      else if h : n.val - 1024 - 1024 - 1024 - 1024 - 1024 - 1024 - 512 - 512 < 128 then u8 (ix3 ⟨r.val / 2048, by omega⟩ ⟨r.val % 2048, by omega⟩ ⟨n.val - 1024 - 1024 - 1024 - 1024 - 1024 - 1024 - 512 - 512, h⟩)
      else if h : n.val - 1024 - 1024 - 1024 - 1024 - 1024 - 1024 - 512 - 512 - 128 < 128 then u9 (ix3 ⟨r.val / 2048, by omega⟩ ⟨r.val % 2048, by omega⟩ ⟨n.val - 1024 - 1024 - 1024 - 1024 - 1024 - 1024 - 512 - 512 - 128, h⟩)
      else if h : n.val - 1024 - 1024 - 1024 - 1024 - 1024 - 1024 - 512 - 512 - 128 - 128 < 16 then u10 (ix3 ⟨r.val / 2048, by omega⟩ ⟨r.val % 2048, by omega⟩ ⟨n.val - 1024 - 1024 - 1024 - 1024 - 1024 - 1024 - 512 - 512 - 128 - 128, h⟩)
      else u11 (ix3 ⟨r.val / 2048, by omega⟩ ⟨r.val % 2048, by omega⟩ ⟨n.val - 1024 - 1024 - 1024 - 1024 - 1024 - 1024 - 512 - 512 - 128 - 128 - 16, by omega⟩) := by
  pointwise

set_option maxHeartbeats 4000000 in
/-- The reference's projection, read at an index. -/
theorem ref_apply0 (c : Dev nD) (x : FVec Ideal S8x2048x1024 .f32) (ps : IVec S8x2048 32) (nw : FVec Ideal S1x1024 .f32) (w : FVec Ideal S1x1024x7440 .f32)
    (h0 : m ((c.tc : Thread nD τ).loc main_arg0) = x)
    (h1 : m ((c.tc : Thread nD τ).loc main_arg1) = ps)
    (h2 : m ((c.tc : Thread nD τ).loc main_arg2) = nw)
    (h3 : m ((c.tc : Thread nD τ).loc main_arg3) = w) (r : Fin 16384) (n : Fin 7552) (b : Fin 8) (t : Fin 2048) (hb : b.val = r.val / 2048) (ht : t.val = r.val % 2048) :
    res_out0 m c (ix2 r n) = ladder
      (fun n => turn (fun k => proj x nw w (ix3 b t k)) (fun l => angs ps (ix3 b t l)) 0 n.val (by omega) * Ideal.ofBits FTy.f32 1040187392#32)
      (fun k => proj x nw w (ix3 b t k))
      (fun n => turn (fun k => proj x nw w (ix3 b t k)) (fun l => angs ps (ix3 b t l)) 1024 n.val (by omega)) n := by
  have eb : (⟨r.val / 2048, by omega⟩ : Fin 8) = b := Fin.ext hb.symm
  have et : (⟨r.val % 2048, by omega⟩ : Fin 2048) = t := Fin.ext ht.symm
  unfold res_out0 res_main_v78
  rw [h0, h1, h2, h3]
  rw [← proj.eq_def x nw w, ← angs.eq_def ps]
  generalize proj x nw w = P, angs ps = A
  clean_types
  refine (joined_apply _ _ _ _ _ _ _ _ _ _ _ _ r n).trans ?_
  rw [eb, et]
  pointwise
  unfold ladder turn
  simp only [Nat.zero_add]

/-- The reference's projection is, row by row, the columns that the kernel forms. -/
theorem ref_apply (c : Dev nD) (x : FVec Ideal S8x2048x1024 .f32) (ps : IVec S8x2048 32) (nw : FVec Ideal S1x1024 .f32) (w : FVec Ideal S1x1024x7440 .f32)
    (h0 : m ((c.tc : Thread nD τ).loc main_arg0) = x)
    (h1 : m ((c.tc : Thread nD τ).loc main_arg1) = ps)
    (h2 : m ((c.tc : Thread nD τ).loc main_arg2) = nw)
    (h3 : m ((c.tc : Thread nD τ).loc main_arg3) = w) (r : Fin 16384) (n : Fin 7552) :
    res_out0 m c (ix2 r n) = colOut (normRow (fun k => x (ix3 ⟨r.val / 2048, by omega⟩ ⟨r.val % 2048, by omega⟩ k)) (fun k => nw (ix2 0 k)))
      (kept (fun d k => w (ix3 0 d k))) (cosRow (phaseRow (ps (ix2 ⟨r.val / 2048, by omega⟩ ⟨r.val % 2048, by omega⟩))))
      (sinRow (phaseRow (ps (ix2 ⟨r.val / 2048, by omega⟩ ⟨r.val % 2048, by omega⟩)))) n := by
  rw [colOut_ladder, ref_apply0 m c x ps nw w h0 h1 h2 h3 r n ⟨r.val / 2048, by omega⟩ ⟨r.val % 2048, by omega⟩ rfl rfl]
  have e : (fun k => proj x nw w (ix3 ⟨r.val / 2048, by omega⟩ ⟨r.val % 2048, by omega⟩ k)) = _ := funext fun k => proj_apply x nw w _ _ k
  have e' : (fun l => angs ps (ix3 ⟨r.val / 2048, by omega⟩ ⟨r.val % 2048, by omega⟩ l)) = _ := funext fun l => angs_apply ps _ _ l
  rw [e, e']

end Cert.RProjIdeal.Value

namespace Cert.Proof

open Cert.KProjIdeal.Value in
/-- The projection kernel and the reference's projection leave the same array. -/
theorem algebraic_proj : Cert.algebraic_KProjIdeal_RProjIdeal (hKProjIdeal := Cert.KProjIdeal.Gen.facts) (hRProjIdeal := Cert.RProjIdeal.Gen.facts) := by
  pair_intro
  · run_from Cert.KProjIdeal.Value.run_blocks m g
  · run_from Cert.RProjIdeal.Value.run m' g'
    obtain ⟨h0, h1, h2, h3⟩ := hagree c
    refine (final m c (Cert.RProjIdeal.Value.res_out0 m' c) fun r n => ?_).symm
    exact Cert.RProjIdeal.Value.ref_apply m' c _ _ _ _ h0 h1 h2 h3 r n

end Cert.Proof
-- ==== Proof.OutValue.lean ====
/- The output projection at the extended reals: the array the kernel leaves is the reference's. -/
module

public import proofs.«01_k».proof.Defs
public import proofs.«01_k».proof.Proof.Gen.KOutIdeal.Value
public import proofs.«01_k».proof.Proof.Gen.ROutIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.KOutIdeal.Value
open Cert.KOutIdeal Cert.KOutIdeal.Gen

variable (m : (ℓ : Loc nD τ sig) → Buf (Elt Ideal) ℓ)
variable (m' : (ℓ : Loc Cert.ROutIdeal.nD Cert.ROutIdeal.τ Cert.ROutIdeal.sig) → Buf (Elt Ideal) ℓ)

/-- One row of the sum the output projection normalises: the residual plus the merged mixers through `wo`, at column `j`. -/
def zRow (x oa ob ma mb : Fin 1024 → EReal) (wa wb wo : Fin 1024 → Fin 1024 → EReal) (j : Fin 1024) : EReal :=
  x j + ∑ e, (Ideal.logistic (ma e) * ∑ d, oa d * wa d e + Ideal.logistic (mb e) * ∑ d, ob d * wb d e) * wo e j

/-- One row of the output, at column `j`: that sum over its root mean square, times the final norm's weight. -/
def outRow (x oa ob ma mb : Fin 1024 → EReal) (wa wb wo : Fin 1024 → Fin 1024 → EReal) (fw : Fin 1024 → EReal) (j : Fin 1024) : EReal :=
  zRow x oa ob ma mb wa wb wo j
    * Ideal.rsqrt (Ideal.div (∑ k, zRow x oa ob ma mb wa wb wo k * zRow x oa ob ma mb wa wb wo k) (Ideal.ofBits FTy.f32 1149239296#32)
        + Ideal.ofBits FTy.f32 925353388#32) * fw j

/-- The kernel body's payload over its blocks is that row. -/
theorem pay_apply (v0 : Vec Ideal S512x1024 .bf16) (v1 : Vec Ideal S1024x1024 .bf16) (v4 : Vec Ideal S512x1024 .bf16) (v5 : Vec Ideal S1024x1024 .bf16)
    (v8 v12 : Vec Ideal S512x1024 .bf16) (v17 : Vec Ideal S512x1024 .f32) (v20 : Vec Ideal S1024x1024 .bf16) (v34 : Vec Ideal S1x1024 .f32)
    (r : Fin 512) (j : Fin 1024) :
    k0_pay1 (k0_pay2 v0 v1 v4 v5 v8 v12 v17 v20) v34 (ix2 r j)
      = outRow (fun k => v17 (ix2 r k)) (fun k => v0 (ix2 r k)) (fun k => v4 (ix2 r k)) (fun k => v8 (ix2 r k)) (fun k => v12 (ix2 r k))
          (fun d e => v1 (ix2 d e)) (fun d e => v5 (ix2 d e)) (fun d e => v20 (ix2 d e)) (fun k => v34 (ix2 0 k)) j := by
  pointwise [k0_pay1, k0_pay2, outRow, zRow]

/-- The reference's result at row `r` and column `j`. -/
theorem ref_apply (c : Dev Cert.ROutIdeal.nD)
    (x : FVec Ideal Cert.ROutIdeal.S8x2048x1024 .f32) (oa ob : FVec Ideal Cert.ROutIdeal.S16384x1024 .bf16) (p : FVec Ideal Cert.ROutIdeal.S16384x7552 .bf16)
    (wa wb wo : FVec Ideal Cert.ROutIdeal.S1x1024x1024 .f32) (fw : FVec Ideal Cert.ROutIdeal.S1024 .f32)
    (h0 : m' ((c.tc : Thread Cert.ROutIdeal.nD Cert.ROutIdeal.τ).loc Cert.ROutIdeal.main_arg0) = x)
    (h1 : m' ((c.tc : Thread Cert.ROutIdeal.nD Cert.ROutIdeal.τ).loc Cert.ROutIdeal.main_arg1) = oa)
    (h2 : m' ((c.tc : Thread Cert.ROutIdeal.nD Cert.ROutIdeal.τ).loc Cert.ROutIdeal.main_arg2) = ob)
    (h3 : m' ((c.tc : Thread Cert.ROutIdeal.nD Cert.ROutIdeal.τ).loc Cert.ROutIdeal.main_arg3) = p)
    (h4 : m' ((c.tc : Thread Cert.ROutIdeal.nD Cert.ROutIdeal.τ).loc Cert.ROutIdeal.main_arg4) = wa)
    (h5 : m' ((c.tc : Thread Cert.ROutIdeal.nD Cert.ROutIdeal.τ).loc Cert.ROutIdeal.main_arg5) = wb)
    (h6 : m' ((c.tc : Thread Cert.ROutIdeal.nD Cert.ROutIdeal.τ).loc Cert.ROutIdeal.main_arg6) = wo)
    (h7 : m' ((c.tc : Thread Cert.ROutIdeal.nD Cert.ROutIdeal.τ).loc Cert.ROutIdeal.main_arg7) = fw)
    (r : Fin 16384) (j : Fin 1024) :
    Cert.ROutIdeal.Value.res_out0 m' c (ix2 r j)
      = outRow (fun k => x (ix3 ⟨r.val / 2048, by omega⟩ ⟨r.val % 2048, by omega⟩ k)) (fun k => oa (ix2 r k)) (fun k => ob (ix2 r k))
          (fun k => p (ix2 r ⟨4096 + k.val, by omega⟩)) (fun k => p (ix2 r ⟨5120 + k.val, by omega⟩))
          (fun d e => wa (ix3 0 d e)) (fun d e => wb (ix3 0 d e)) (fun d e => wo (ix3 0 d e)) (fun k => fw (ix1 k)) j := by
  unfold Cert.ROutIdeal.Value.res_out0 Cert.ROutIdeal.Value.res_main_v43
  rw [h0, h1, h2, h3, h4, h5, h6, h7]
  clean_types
  pointwise [outRow, zRow]
  rfl

/-- What the body leaves in the output block at a point: its payload over the point's input blocks. -/
theorem outs_eq (c : Dev nD) (t : Fin cfg0.N) : outsAt0 m c t
    = k0_pay1 (k0_pay2 (iblk m c 1 t) (iblk m c 5 t) (iblk m c 2 t) (iblk m c 6 t) (X0_3 m c t) (X0_4 m c t) (iblk m c 0 t) (iblk m c 7 t)) (iblk m c 8 t) := by
  unfold outsAt0
  frame_out

/-- The blocks the grid's points read and write. -/
theorem idx : ∀ t : Fin cfg0.N, win0_0.index t = ![t.val, 0] ∧ win0_1.index t = ![t.val, 0] ∧ win0_2.index t = ![t.val, 0]
    ∧ win0_3.index t = ![t.val, 4] ∧ win0_4.index t = ![t.val, 5] ∧ win0_5.index t = ![0, 0] ∧ win0_6.index t = ![0, 0]
    ∧ win0_7.index t = ![0, 0] ∧ win0_8.index t = ![0, 0] ∧ win0_9.index t = ![t.val, 0] ∧ t.val < 32 :=
  (by decide +kernel : ∀ t : Fin grid0.N, _)

theorem blk0 (c : Dev nD) (t : Fin cfg0.N) (r : Fin 512) (k : Fin 1024) (ht : t.val < 32) :
    iblk m c 0 t (ix2 r k) = m ((c : Thread nD τ).loc main_arg0) (ix3 ⟨(t.val * 512 + r.val) / 2048, by omega⟩ ⟨(t.val * 512 + r.val) % 2048, by omega⟩ k) := by
  have e : ((cfg0.win 0).blk t).view.emb (ix2 r k) = ix2 (⟨t.val * 512 + r.val, by omega⟩ : Fin 16384) k := by
    blk_ext [(idx t).1]
  show V m c main_v0 (((cfg0.win 0).blk t).view.emb (ix2 r k)) = _
  rw [e]
  entry_read
  pointwise

theorem blk1 (c : Dev nD) (t : Fin cfg0.N) (r : Fin 512) (k : Fin 1024) (ht : t.val < 32) :
    iblk m c 1 t (ix2 r k) = m ((c : Thread nD τ).loc main_arg1) (ix2 ⟨t.val * 512 + r.val, by omega⟩ k) := by
  have hi := (idx t).2.1
  have e : ((cfg0.win 1).blk t).view.emb (ix2 r k) = ix2 (⟨t.val * 512 + r.val, by omega⟩ : Fin 16384) k := by
    blk_ext [hi]
  show V m c main_arg1 (((cfg0.win 1).blk t).view.emb (ix2 r k)) = _
  rw [e]
  rfl

theorem blk2 (c : Dev nD) (t : Fin cfg0.N) (r : Fin 512) (k : Fin 1024) (ht : t.val < 32) :
    iblk m c 2 t (ix2 r k) = m ((c : Thread nD τ).loc main_arg2) (ix2 ⟨t.val * 512 + r.val, by omega⟩ k) := by
  have hi := (idx t).2.2.1
  have e : ((cfg0.win 2).blk t).view.emb (ix2 r k) = ix2 (⟨t.val * 512 + r.val, by omega⟩ : Fin 16384) k := by
    blk_ext [hi]
  show V m c main_arg2 (((cfg0.win 2).blk t).view.emb (ix2 r k)) = _
  rw [e]
  rfl

theorem blk3 (c : Dev nD) (t : Fin cfg0.N) (r : Fin 512) (k : Fin 1024) (ht : t.val < 32) :
    X0_3 m c t (ix2 r k) = m ((c : Thread nD τ).loc main_arg3) (ix2 ⟨t.val * 512 + r.val, by omega⟩ ⟨4096 + k.val, by omega⟩) := by
  have hi := (idx t).2.2.2.1
  have e : ((cfg0.win 3).blk t).view.emb (fun a => ⟨(ix2 r k a).val, (Pipeline.Window.moved_iff _ _ _).1 (moved0_3 t (ix2 r k)) a⟩) = ix2 (⟨t.val * 512 + r.val, by omega⟩ : Fin 16384) (⟨4096 + k.val, by omega⟩ : Fin 7552) := by
    blk_ext [hi]
  unfold X0_3 Pipeline.Window.fill
  rw [dif_pos (moved0_3 t (ix2 r k))]
  show V m c main_arg3 (((cfg0.win 3).blk t).view.emb fun a => ⟨(ix2 r k a).val, (Pipeline.Window.moved_iff _ _ _).1 (moved0_3 t (ix2 r k)) a⟩) = _
  rw [e]
  rfl

theorem blk4 (c : Dev nD) (t : Fin cfg0.N) (r : Fin 512) (k : Fin 1024) (ht : t.val < 32) :
    X0_4 m c t (ix2 r k) = m ((c : Thread nD τ).loc main_arg3) (ix2 ⟨t.val * 512 + r.val, by omega⟩ ⟨5120 + k.val, by omega⟩) := by
  have hi := (idx t).2.2.2.2.1
  have e : ((cfg0.win 4).blk t).view.emb (fun a => ⟨(ix2 r k a).val, (Pipeline.Window.moved_iff _ _ _).1 (moved0_4 t (ix2 r k)) a⟩) = ix2 (⟨t.val * 512 + r.val, by omega⟩ : Fin 16384) (⟨5120 + k.val, by omega⟩ : Fin 7552) := by
    blk_ext [hi]
  unfold X0_4 Pipeline.Window.fill
  rw [dif_pos (moved0_4 t (ix2 r k))]
  show V m c main_arg3 (((cfg0.win 4).blk t).view.emb fun a => ⟨(ix2 r k a).val, (Pipeline.Window.moved_iff _ _ _).1 (moved0_4 t (ix2 r k)) a⟩) = _
  rw [e]
  rfl

theorem blk5 (c : Dev nD) (t : Fin cfg0.N) (d k : Fin 1024) :
    iblk m c 5 t (ix2 d k) = m ((c : Thread nD τ).loc main_arg4) (ix3 0 d k) := by
  have hi := (idx t).2.2.2.2.2.1
  have e : ((cfg0.win 5).blk t).view.emb (ix2 d k) = ix2 d k := by
    blk_ext [hi]
  show V m c main_v2 (((cfg0.win 5).blk t).view.emb (ix2 d k)) = _
  rw [e]
  entry_read
  pointwise

theorem blk6 (c : Dev nD) (t : Fin cfg0.N) (d k : Fin 1024) :
    iblk m c 6 t (ix2 d k) = m ((c : Thread nD τ).loc main_arg5) (ix3 0 d k) := by
  have hi := (idx t).2.2.2.2.2.2.1
  have e : ((cfg0.win 6).blk t).view.emb (ix2 d k) = ix2 d k := by
    blk_ext [hi]
  show V m c main_v4 (((cfg0.win 6).blk t).view.emb (ix2 d k)) = _
  rw [e]
  entry_read
  pointwise

theorem blk7 (c : Dev nD) (t : Fin cfg0.N) (d k : Fin 1024) :
    iblk m c 7 t (ix2 d k) = m ((c : Thread nD τ).loc main_arg6) (ix3 0 d k) := by
  have hi := (idx t).2.2.2.2.2.2.2.1
  have e : ((cfg0.win 7).blk t).view.emb (ix2 d k) = ix2 d k := by
    blk_ext [hi]
  show V m c main_v6 (((cfg0.win 7).blk t).view.emb (ix2 d k)) = _
  rw [e]
  entry_read
  pointwise

theorem blk8 (c : Dev nD) (t : Fin cfg0.N) (k : Fin 1024) :
    iblk m c 8 t (ix2 0 k) = m ((c : Thread nD τ).loc main_arg7) (ix1 k) := by
  have hi := (idx t).2.2.2.2.2.2.2.2.1
  have e : ((cfg0.win 8).blk t).view.emb (ix2 (0 : Fin 1) k) = ix2 (0 : Fin 1) k := by
    blk_ext [hi]
  show V m c main_v7 (((cfg0.win 8).blk t).view.emb (ix2 (0 : Fin 1) k)) = _
  rw [e]
  entry_read
  pointwise

theorem final (c : Dev nD) (W : Buf (Elt Ideal) ((c : Thread nD τ).loc main_v8))
    (hW : ∀ (r : Fin 16384) (j : Fin 1024), W (ix2 r j) = outRow (fun k => m ((c : Thread nD τ).loc main_arg0) (ix3 ⟨r.val / 2048, by omega⟩ ⟨r.val % 2048, by omega⟩ k)) (fun k => m ((c : Thread nD τ).loc main_arg1) (ix2 r k)) (fun k => m ((c : Thread nD τ).loc main_arg2) (ix2 r k))
          (fun k => m ((c : Thread nD τ).loc main_arg3) (ix2 r ⟨4096 + k.val, by omega⟩)) (fun k => m ((c : Thread nD τ).loc main_arg3) (ix2 r ⟨5120 + k.val, by omega⟩))
          (fun d e => m ((c : Thread nD τ).loc main_arg4) (ix3 0 d e)) (fun d e => m ((c : Thread nD τ).loc main_arg5) (ix3 0 d e)) (fun d e => m ((c : Thread nD τ).loc main_arg6) (ix3 0 d e)) (fun k => m ((c : Thread nD τ).loc main_arg7) (ix1 k)) j) :
    (dats m 0 c).arrAt 9 (cfgs 0).N = W := by
  refine (dats m 0 c).arrAt_eq_of_covers 9 _ (by decide +kernel) fun t _ y => ?_
  obtain ⟨r, j, rfl⟩ : ∃ (a : Fin 512) (b : Fin 1024), y = ix2 a b := ⟨y 0, y 1, eq_ix2 y⟩
  have hi := idx t
  have ht := hi.2.2.2.2.2.2.2.2.2.2
  have e : ((cfg0.win 9).blk t).view.emb (ix2 r j) = ix2 (⟨t.val * 512 + r.val, by omega⟩ : Fin 16384) j := by
    blk_ext [hi]
  rw [e, hW]
  blk_simp
  rw [after0_9, outs_eq, pay_apply]
  have b0 : (fun k => iblk m c 0 t (ix2 r k)) = _ := funext fun k => blk0 m c t r k ht
  have b1 : (fun k => iblk m c 1 t (ix2 r k)) = _ := funext fun k => blk1 m c t r k ht
  have b2 : (fun k => iblk m c 2 t (ix2 r k)) = _ := funext fun k => blk2 m c t r k ht
  have b3 : (fun k => X0_3 m c t (ix2 r k)) = _ := funext fun k => blk3 m c t r k ht
  have b4 : (fun k => X0_4 m c t (ix2 r k)) = _ := funext fun k => blk4 m c t r k ht
  have b5 : (fun d k => iblk m c 5 t (ix2 d k)) = _ := funext fun d => funext fun k => blk5 m c t d k
  have b6 : (fun d k => iblk m c 6 t (ix2 d k)) = _ := funext fun d => funext fun k => blk6 m c t d k
  have b7 : (fun d k => iblk m c 7 t (ix2 d k)) = _ := funext fun d => funext fun k => blk7 m c t d k
  have b8 : (fun k => iblk m c 8 t (ix2 0 k)) = _ := funext fun k => blk8 m c t k
  rw [b0, b1, b2, b3, b4, b5, b6, b7, b8]

end Cert.KOutIdeal.Value

namespace Cert.Proof

open Cert.KOutIdeal.Value in
/-- The merge kernel and the layer's last lines leave the same array. -/
theorem algebraic_out : Cert.algebraic_KOutIdeal_ROutIdeal (hKOutIdeal := Cert.KOutIdeal.Gen.facts) (hROutIdeal := Cert.ROutIdeal.Gen.facts) := by
  pair_intro
  · run_from Cert.KOutIdeal.Value.run_blocks m g
  · run_from Cert.ROutIdeal.Value.run m' g'
    obtain ⟨h0, h1, h2, h3, h4, h5, h6, h7⟩ := hagree c
    refine (final m c (Cert.ROutIdeal.Value.res_out0 m' c) fun r j => ?_).symm
    exact ref_apply m' c _ _ _ _ _ _ _ _ h0 h1 h2 h3 h4 h5 h6 h7 r j

end Cert.Proof
-- ==== Proof.lean ====
/- The claims about the calls of the layer, put together from the modules that prove them. -/
module

public import proofs.«01_k».proof.Defs
public import proofs.«01_k».proof.Proof.Gen.KSwa.Frame
public import proofs.«01_k».proof.Proof.Gen.KSwaIdeal.Value
public import proofs.«01_k».proof.Proof.Gen.RSwaIdeal.Run
public import proofs.«01_k».proof.Proof.SwaClaim
public import proofs.«01_k».proof.Proof.Gen.Pre_finite_scores
public import proofs.«01_k».proof.Proof.Gen.KProj.Frame
public import proofs.«01_k».proof.Proof.Gen.KProjIdeal.Value
public import proofs.«01_k».proof.Proof.Gen.RProjIdeal.Run
public import proofs.«01_k».proof.Proof.ProjRef
public import proofs.«01_k».proof.Proof.Gen.KOut.Frame
public import proofs.«01_k».proof.Proof.Gen.KOutIdeal.Value
public import proofs.«01_k».proof.Proof.Gen.ROutIdeal.Run
public import proofs.«01_k».proof.Proof.OutValue
public import Idealize.ShloMosaic.Adequacy
public import Idealize.ShloMosaic.Init

@[expose] public section

noncomputable section

namespace Cert.Proof

open Idealize.ShloMosaic Idealize.SL.Sem

/-- The reference of this call runs, keeps its arguments, and declares no counter. -/
theorem frame_swa : Cert.quiescent_RSwaIdeal (hRSwaIdeal := Cert.RSwaIdeal.Gen.facts) := fun m ρ _ =>
  (θ_run _ _ _).mono (fun r h => ⟨fun c => (h c).2, Idealize.ShloMosaic.sem_eq_zero_of_no_sems (by decide) r.2⟩) (Cert.RSwaIdeal.Value.run m ρ)

/-- The reference of this call runs, keeps its arguments, and declares no counter. -/
theorem frame_proj : Cert.quiescent_RProjIdeal (hRProjIdeal := Cert.RProjIdeal.Gen.facts) := fun m ρ _ =>
  (θ_run _ _ _).mono (fun r h => ⟨fun c => (h c).2, Idealize.ShloMosaic.sem_eq_zero_of_no_sems (by decide) r.2⟩) (Cert.RProjIdeal.Value.run m ρ)

/-- The reference of this call runs, keeps its arguments, and declares no counter. -/
theorem frame_out : Cert.quiescent_ROutIdeal (hROutIdeal := Cert.ROutIdeal.Gen.facts) := fun m ρ _ =>
  (θ_run _ _ _).mono (fun r h => ⟨fun c => (h c).2, Idealize.ShloMosaic.sem_eq_zero_of_no_sems (by decide) r.2⟩) (Cert.ROutIdeal.Value.run m ρ)

/-- Every call runs and leaves its counters at zero, its ideal reading is that of the same program, and the array it
leaves is the reference's. -/
theorem claim : Cert.Claim :=
  ⟨Cert.KSwa.Gen.facts, Cert.KSwaIdeal.Gen.facts, Cert.RSwaIdeal.Gen.facts, Cert.KProj.Gen.facts, Cert.KProjIdeal.Gen.facts, Cert.RProjIdeal.Gen.facts, Cert.KOut.Gen.facts, Cert.KOutIdeal.Gen.facts, Cert.ROutIdeal.Gen.facts, Cert.Pre_finite_scores.Gen.facts,
    fun m ρ _ => Cert.KSwa.Gen.frame m ρ,
    fun m ρ _ => Cert.KSwaIdeal.Gen.frame m ρ,
    fun m ρ _ => Cert.KSwaIdeal.Gen.frame m ρ,
    frame_swa,
    fun m ρ _ => frame_swa m ρ trivial,
    fun m ρ _ => Cert.KProj.Gen.frame m ρ,
    fun m ρ _ => Cert.KProjIdeal.Gen.frame m ρ,
    frame_proj,
    fun m ρ _ => Cert.KOut.Gen.frame m ρ,
    fun m ρ _ => Cert.KOutIdeal.Gen.frame m ρ,
    frame_out,
    preserves_swa, algebraic_swa, trivial, algebraic_proj, trivial, algebraic_out⟩

end Cert.Proof

end
